-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x64x64x2 : Shape := ⟨4, ![4096, 64, 64, 2]⟩
abbrev S_ : Shape := ⟨0, ![]⟩

class Facts : Prop where
  bcast_S_S4096x64x64x2 : S_.BroadcastsInDim S4096x64x64x2 (![] : Fin 0 → Fin S4096x64x64x2.rank)
  reducesTo_S4096x64x64x2_S_d0_1_2_3 : S4096x64x64x2.ReducesTo [0, 1, 2, 3] S_
  h_S_ : 0 < S_.numel

variable [Facts]

def fn {F : FTy → Type} [FloatOps F] (main_arg0 : IVec S4096x64x64x2 32) : IVec S_ 1 :=
  let main_c : IVec S_ 32 := constantI S_ 32 0#32
  let main_v0 : IVec S4096x64x64x2 32 := broadcastInDim S4096x64x64x2 ![] bcast_S_S4096x64x64x2 main_c
  let main_v1 : IVec S4096x64x64x2 1 := cmpi .sge main_arg0 main_v0
  let main_c_0 : IVec S_ 32 := constantI S_ 32 8#32
  let main_v2 : IVec S4096x64x64x2 32 := broadcastInDim S4096x64x64x2 ![] bcast_S_S4096x64x64x2 main_c_0
  let main_v3 : IVec S4096x64x64x2 1 := cmpi .slt main_arg0 main_v2
  let main_v4 : IVec S4096x64x64x2 1 := andi main_v1 main_v3
  let main_c_1 : IVec S_ 1 := constantI S_ 1 1#1
  let main_v5 : IVec S_ 1 := (fun x v => Host.reduce IntOp.andi x v reducesTo_S4096x64x64x2_S_d0_1_2_3 h_S_) main_v4 main_c_1
  main_v5
-- ==== Kernel.lean ====
abbrev S4096x64x64x2 : Shape := ⟨4, ![4096, 64, 64, 2]⟩
abbrev S4096x8192 : Shape := ⟨2, ![4096, 8192]⟩
abbrev S32x16384 : Shape := ⟨2, ![32, 16384]⟩
abbrev S8192 : Shape := ⟨1, ![8192]⟩
abbrev S1024 : Shape := ⟨1, ![1024]⟩
abbrev S16384 : Shape := ⟨1, ![16384]⟩
abbrev S_ : Shape := ⟨0, ![]⟩
abbrev S16 : Shape := ⟨1, ![16]⟩
abbrev S1x8192 : Shape := ⟨2, ![1, 8192]⟩
abbrev S1x16384 : Shape := ⟨2, ![1, 16384]⟩
abbrev S4096x128 : Shape := ⟨2, ![4096, 128]⟩

abbrev nBuf : Table → Nat
  | .hbm => 4
  | .local .scVector .vmem => 6
  | _ => 0

abbrev bufTy : (tb : Table) → Fin (nBuf tb) → BufTy
  | .hbm, ⟨0, _⟩ => ⟨S4096x64x64x2, .i32⟩
  | .hbm, ⟨1, _⟩ => ⟨S4096x8192, .i32⟩
  | .hbm, ⟨2, _⟩ => ⟨S32x16384, .i32⟩
  | .hbm, ⟨3, _⟩ => ⟨S4096x128, .i32⟩
  | .local .scVector .vmem, ⟨0, _⟩ => ⟨S8192, .i32⟩
  | .local .scVector .vmem, ⟨1, _⟩ => ⟨S8192, .i32⟩
  | .local .scVector .vmem, ⟨2, _⟩ => ⟨S8192, .i32⟩
  | .local .scVector .vmem, ⟨3, _⟩ => ⟨S8192, .i32⟩
  | .local .scVector .vmem, ⟨4, _⟩ => ⟨S1024, .i32⟩
  | .local .scVector .vmem, ⟨5, _⟩ => ⟨S16384, .i32⟩
  | _, _ => ⟨S4096x64x64x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v8 : BitVec 32 := Scalar.addi v2 c0_i32_0
  let c0_i32_1 : BitVec 32 := 0#32
  ![v8.toNat, 0]
@[reducible] def k0_t1_loop : Scf.Loop 32 :=
  let c0_i32_10 : BitVec 32 := 0#32
  let c32_i32 : BitVec 32 := 32#32
  let v23 : BitVec 32 := Scalar.addi c0_i32_10 c32_i32
  let c1_i32_11 : BitVec 32 := 1#32
  ⟨c0_i32_10, v23, c1_i32_11⟩
def k0_cond1 (k0_t1 : Fin k0_t1_loop.trips) : BitVec 1 :=
  let c4_i32 : BitVec 32 := 4#32
  let c0_i32_10 : BitVec 32 := 0#32
  let c1_i32_11 : BitVec 32 := 1#32
  let arg14 : BitVec 32 := Scf.iv c0_i32_10 c1_i32_11 k0_t1
  let v25 : BitVec 32 := Scalar.muli c4_i32 arg14
  let c0_i32_13 : BitVec 32 := 0#32
  let v26 : BitVec 32 := Scalar.addi v25 c0_i32_13
  let c125_i32 : BitVec 32 := 125#32
  let v28 : BitVec 1 := Scalar.cmpi .slt v26 c125_i32
  let v29 : BitVec 32 := Scalar.extui v28
  let c0_i32_14 : BitVec 32 := 0#32
  let v30 : BitVec 1 := Scalar.cmpi .ne v29 c0_i32_14
  v30

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32 : BitVec 32 := 4#32
  let c0_i32_10 : BitVec 32 := 0#32
  let c1_i32_11 : BitVec 32 := 1#32
  let arg14 : BitVec 32 := Scf.iv c0_i32_10 c1_i32_11 k0_t1
  let v25 : BitVec 32 := Scalar.muli c4_i32 arg14
  let c0_i32_13 : BitVec 32 := 0#32
  let v26 : BitVec 32 := Scalar.addi v25 c0_i32_13
  let v27 : BitVec 32 := Scalar.addi v2 v26
  let c4_i32_115 : BitVec 32 := 4#32
  let v157 : BitVec 32 := Scalar.addi v27 c4_i32_115
  let c1_i32_116 : BitVec 32 := 1#32
  let v158 : BitVec 32 := Scalar.subi v157 c1_i32_116
  let c0_i32_117 : BitVec 32 := 0#32
  ![v158.toNat, 0]
def k0_off3 (i : grid0.Coords) (k0_t1 : Fin k0_t1_loop.trips) (c0_i32_13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32 : BitVec 32 := 4#32
  let c0_i32_10 : BitVec 32 := 0#32
  let c1_i32_11 : BitVec 32 := 1#32
  let arg14 : BitVec 32 := Scf.iv c0_i32_10 c1_i32_11 k0_t1
  let v25 : BitVec 32 := Scalar.muli c4_i32 arg14
  let v26 : BitVec 32 := Scalar.addi v25 c0_i32_13
  let v27 : BitVec 32 := Scalar.addi v2 v26
  let c0_i32_15 : BitVec 32 := 0#32
  ![v27.toNat, 0]
@[reducible] def k0_t2_loop : Scf.Loop 32 :=
  let c0_i32_18 : BitVec 32 := 0#32
  let c64_i32_19 : BitVec 32 := 64#32
  let v35 : BitVec 32 := Scalar.addi c0_i32_18 c64_i32_19
  let c1_i32_20 : BitVec 32 := 1#32
  ⟨c0_i32_18, v35, c1_i32_20⟩
def k0_off4 (k0_t2 : Fin k0_t2_loop.trips) : Fin 1 → Nat :=
  let c0_i32_18 : BitVec 32 := 0#32
  let c1_i32_20 : BitVec 32 := 1#32
  let arg16 : BitVec 32 := Scf.iv c0_i32_18 c1_i32_20 k0_t2
  let c16_i32 : BitVec 32 := 16#32
  let v157 : BitVec 32 := Scalar.muli arg16 c16_i32
  let v158 : Index := Scalar.indexCast v157
  ![v158.toNat]
@[reducible] def k0_t3_loop : Scf.Loop 32 :=
  let c0_i32_24 : BitVec 32 := 0#32
  let c256_i32 : BitVec 32 := 256#32
  let v41 : BitVec 32 := Scalar.addi c0_i32_24 c256_i32
  let c1_i32_25 : BitVec 32 := 1#32
  ⟨c0_i32_24, v41, c1_i32_25⟩

def k0_chk1 (arg17 : IVec S16 32) : Prop :=
  (∀ a x, ((![arg17] : Fin 1 → IVec S16 32) a x).toNat < S8192.size a)
theorem k0_idx1_inb : ∀ (arg17 : IVec S16 32) (k0_hw1 : k0_chk1 arg17), ∀ a x, ((![arg17] : Fin 1 → IVec S16 32) a x).toNat < S8192.size a := fun arg17 k0_hw1 => k0_hw1

def k0_chk2 (arg18 : IVec S16 32) : Prop :=
  (∀ a x, ((![arg18] : Fin 1 → IVec S16 32) a x).toNat < S8192.size a)
theorem k0_idx2_inb : ∀ (arg18 : IVec S16 32) (k0_hw2 : k0_chk2 arg18), ∀ a x, ((![arg18] : Fin 1 → IVec S16 32) a x).toNat < S8192.size a := fun arg18 k0_hw2 => k0_hw2

def k0_chk3 (v162 : IVec S16 32) : Prop :=
  (∀ a x, ((![v162] : Fin 1 → IVec S16 32) a x).toNat < S1024.size a)
theorem k0_idx3_inb : ∀ (v162 : IVec S16 32) (k0_hw3 : k0_chk3 v162), ∀ a x, ((![v162] : Fin 1 → IVec S16 32) a x).toNat < S1024.size a := fun v162 k0_hw3 => k0_hw3
@[reducible] def k0_t4_loop : Scf.Loop 32 :=
  let c0_i32_29 : BitVec 32 := 0#32
  let c4_i32_30 : BitVec 32 := 4#32
  let v44 : BitVec 32 := Scalar.addi c0_i32_29 c4_i32_30
  let c1_i32_31 : BitVec 32 := 1#32
  ⟨c0_i32_29, v44, c1_i32_31⟩
def k0_off5 (k0_t4 : Fin k0_t4_loop.trips) : Fin 1 → Nat :=
  let c0_i32_29 : BitVec 32 := 0#32
  let c1_i32_31 : BitVec 32 := 1#32
  let arg16 : BitVec 32 := Scf.iv c0_i32_29 c1_i32_31 k0_t4
  let c16_i32 : BitVec 32 := 16#32
  let v157 : BitVec 32 := Scalar.muli arg16 c16_i32
  let v158 : Index := Scalar.indexCast v157
  ![v158.toNat]
def k0_off6 (k0_t4 : Fin k0_t4_loop.trips) (c64_i32_116 : BitVec 32) : Fin 1 → Nat :=
  let c0_i32_29 : BitVec 32 := 0#32
  let c1_i32_31 : BitVec 32 := 1#32
  let arg16 : BitVec 32 := Scf.iv c0_i32_29 c1_i32_31 k0_t4
  let c16_i32_115 : BitVec 32 := 16#32
  let v160 : BitVec 32 := Scalar.muli arg16 c16_i32_115
  let v161 : BitVec 32 := Scalar.addi c64_i32_116 v160
  let v162 : Index := Scalar.indexCast v161
  ![v162.toNat]
def k0_off7 (k0_t1 : Fin k0_t1_loop.trips) (k0_t4 : Fin k0_t4_loop.trips) : Fin 1 → Nat :=
  let c4_i32 : BitVec 32 := 4#32
  let c0_i32_10 : BitVec 32 := 0#32
  let c1_i32_11 : BitVec 32 := 1#32
  let arg14 : BitVec 32 := Scf.iv c0_i32_10 c1_i32_11 k0_t1
  let v25 : BitVec 32 := Scalar.muli c4_i32 arg14
  let c0_i32_13 : BitVec 32 := 0#32
  let v26 : BitVec 32 := Scalar.addi v25 c0_i32_13
  let c128_i32_27 : BitVec 32 := 128#32
  let v43 : BitVec 32 := Scalar.muli v26 c128_i32_27
  let c0_i32_29 : BitVec 32 := 0#32
  let c1_i32_31 : BitVec 32 := 1#32
  let arg16 : BitVec 32 := Scf.iv c0_i32_29 c1_i32_31 k0_t4
  let c16_i32_133 : BitVec 32 := 16#32
  let v235 : BitVec 32 := Scalar.muli arg16 c16_i32_133
  let v236 : BitVec 32 := Scalar.addi v43 v235
  let v237 : Index := Scalar.indexCast v236
  ![v237.toNat]
def k0_off8 (k0_t1 : Fin k0_t1_loop.trips) (c0_i32_13 : BitVec 32) (c64_i32_33 : BitVec 32) : Fin 1 → Nat :=
  let c4_i32 : BitVec 32 := 4#32
  let c0_i32_10 : BitVec 32 := 0#32
  let c1_i32_11 : BitVec 32 := 1#32
  let arg14 : BitVec 32 := Scf.iv c0_i32_10 c1_i32_11 k0_t1
  let v25 : BitVec 32 := Scalar.muli c4_i32 arg14
  let v26 : BitVec 32 := Scalar.addi v25 c0_i32_13
  let c128_i32_27 : BitVec 32 := 128#32
  let v43 : BitVec 32 := Scalar.muli v26 c128_i32_27
  let v46 : BitVec 32 := Scalar.addi v43 c64_i32_33
  let v47 : Index := Scalar.indexCast v46
  ![v47.toNat]
def k0_cond2 (k0_t1 : Fin k0_t1_loop.trips) : BitVec 1 :=
  let c4_i32_34 : BitVec 32 := 4#32
  let c0_i32_10 : BitVec 32 := 0#32
  let c1_i32_11 : BitVec 32 := 1#32
  let arg14 : BitVec 32 := Scf.iv c0_i32_10 c1_i32_11 k0_t1
  let v58 : BitVec 32 := Scalar.muli c4_i32_34 arg14
  let c1_i32_35 : BitVec 32 := 1#32
  let v59 : BitVec 32 := Scalar.addi v58 c1_i32_35
  let c125_i32_36 : BitVec 32 := 125#32
  let v61 : BitVec 1 := Scalar.cmpi .slt v59 c125_i32_36
  let v62 : BitVec 32 := Scalar.extui v61
  let c0_i32_37 : BitVec 32 := 0#32
  let v63 : BitVec 1 := Scalar.cmpi .ne v62 c0_i32_37
  v63

def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_34 : BitVec 32 := 4#32
  let c0_i32_10 : BitVec 32 := 0#32
  let c1_i32_11 : BitVec 32 := 1#32
  let arg14 : BitVec 32 := Scf.iv c0_i32_10 c1_i32_11 k0_t1
  let v58 : BitVec 32 := Scalar.muli c4_i32_34 arg14
  let c1_i32_35 : BitVec 32 := 1#32
  let v59 : BitVec 32 := Scalar.addi v58 c1_i32_35
  let v60 : BitVec 32 := Scalar.addi v2 v59
  let c4_i32_115 : BitVec 32 := 4#32
  let v157 : BitVec 32 := Scalar.addi v60 c4_i32_115
  let c1_i32_116 : BitVec 32 := 1#32
  let v158 : BitVec 32 := Scalar.subi v157 c1_i32_116
  let c0_i32_117 : BitVec 32 := 0#32
  ![v158.toNat, 0]
@[reducible] def k0_t5_loop : Scf.Loop 32 :=
  let c0_i32_41 : BitVec 32 := 0#32
  let c64_i32_42 : BitVec 32 := 64#32
  let v68 : BitVec 32 := Scalar.addi c0_i32_41 c64_i32_42
  let c1_i32_43 : BitVec 32 := 1#32
  ⟨c0_i32_41, v68, c1_i32_43⟩
def k0_off10 (k0_t5 : Fin k0_t5_loop.trips) : Fin 1 → Nat :=
  let c0_i32_41 : BitVec 32 := 0#32
  let c1_i32_43 : BitVec 32 := 1#32
  let arg16 : BitVec 32 := Scf.iv c0_i32_41 c1_i32_43 k0_t5
  let c16_i32 : BitVec 32 := 16#32
  let v157 : BitVec 32 := Scalar.muli arg16 c16_i32
  let v158 : Index := Scalar.indexCast v157
  ![v158.toNat]
@[reducible] def k0_t6_loop : Scf.Loop 32 :=
  let c0_i32_47 : BitVec 32 := 0#32
  let c256_i32_48 : BitVec 32 := 256#32
  let v74 : BitVec 32 := Scalar.addi c0_i32_47 c256_i32_48
  let c1_i32_49 : BitVec 32 := 1#32
  ⟨c0_i32_47, v74, c1_i32_49⟩

def k0_chk4 (arg17 : IVec S16 32) : Prop :=
  (∀ a x, ((![arg17] : Fin 1 → IVec S16 32) a x).toNat < S8192.size a)
theorem k0_idx4_inb : ∀ (arg17 : IVec S16 32) (k0_hw4 : k0_chk4 arg17), ∀ a x, ((![arg17] : Fin 1 → IVec S16 32) a x).toNat < S8192.size a := fun arg17 k0_hw4 => k0_hw4

def k0_chk5 (arg18 : IVec S16 32) : Prop :=
  (∀ a x, ((![arg18] : Fin 1 → IVec S16 32) a x).toNat < S8192.size a)
theorem k0_idx5_inb : ∀ (arg18 : IVec S16 32) (k0_hw5 : k0_chk5 arg18), ∀ a x, ((![arg18] : Fin 1 → IVec S16 32) a x).toNat < S8192.size a := fun arg18 k0_hw5 => k0_hw5

def k0_chk6 (v162 : IVec S16 32) : Prop :=
  (∀ a x, ((![v162] : Fin 1 → IVec S16 32) a x).toNat < S1024.size a)
theorem k0_idx6_inb : ∀ (v162 : IVec S16 32) (k0_hw6 : k0_chk6 v162), ∀ a x, ((![v162] : Fin 1 → IVec S16 32) a x).toNat < S1024.size a := fun v162 k0_hw6 => k0_hw6
@[reducible] def k0_t7_loop : Scf.Loop 32 :=
  let c0_i32_53 : BitVec 32 := 0#32
  let c4_i32_54 : BitVec 32 := 4#32
  let v77 : BitVec 32 := Scalar.addi c0_i32_53 c4_i32_54
  let c1_i32_55 : BitVec 32 := 1#32
  ⟨c0_i32_53, v77, c1_i32_55⟩
def k0_off11 (k0_t7 : Fin k0_t7_loop.trips) : Fin 1 → Nat :=
  let c0_i32_53 : BitVec 32 := 0#32
  let c1_i32_55 : BitVec 32 := 1#32
  let arg16 : BitVec 32 := Scf.iv c0_i32_53 c1_i32_55 k0_t7
  let c16_i32 : BitVec 32 := 16#32
  let v157 : BitVec 32 := Scalar.muli arg16 c16_i32
  let v158 : Index := Scalar.indexCast v157
  ![v158.toNat]
def k0_off12 (k0_t7 : Fin k0_t7_loop.trips) (c64_i32_116 : BitVec 32) : Fin 1 → Nat :=
  let c0_i32_53 : BitVec 32 := 0#32
  let c1_i32_55 : BitVec 32 := 1#32
  let arg16 : BitVec 32 := Scf.iv c0_i32_53 c1_i32_55 k0_t7
  let c16_i32_115 : BitVec 32 := 16#32
  let v160 : BitVec 32 := Scalar.muli arg16 c16_i32_115
  let v161 : BitVec 32 := Scalar.addi c64_i32_116 v160
  let v162 : Index := Scalar.indexCast v161
  ![v162.toNat]
def k0_off13 (k0_t1 : Fin k0_t1_loop.trips) (k0_t7 : Fin k0_t7_loop.trips) : Fin 1 → Nat :=
  let c4_i32_34 : BitVec 32 := 4#32
  let c0_i32_10 : BitVec 32 := 0#32
  let c1_i32_11 : BitVec 32 := 1#32
  let arg14 : BitVec 32 := Scf.iv c0_i32_10 c1_i32_11 k0_t1
  let v58 : BitVec 32 := Scalar.muli c4_i32_34 arg14
  let c1_i32_35 : BitVec 32 := 1#32
  let v59 : BitVec 32 := Scalar.addi v58 c1_i32_35
  let c128_i32_51 : BitVec 32 := 128#32
  let v76 : BitVec 32 := Scalar.muli v59 c128_i32_51
  let c0_i32_53 : BitVec 32 := 0#32
  let c1_i32_55 : BitVec 32 := 1#32
  let arg16 : BitVec 32 := Scf.iv c0_i32_53 c1_i32_55 k0_t7
  let c16_i32_133 : BitVec 32 := 16#32
  let v235 : BitVec 32 := Scalar.muli arg16 c16_i32_133
  let v236 : BitVec 32 := Scalar.addi v76 v235
  let v237 : Index := Scalar.indexCast v236
  ![v237.toNat]
def k0_cond3 (k0_t1 : Fin k0_t1_loop.trips) : BitVec 1 :=
  let c4_i32_61 : BitVec 32 := 4#32
  let c0_i32_10 : BitVec 32 := 0#32
  let c1_i32_11 : BitVec 32 := 1#32
  let arg14 : BitVec 32 := Scf.iv c0_i32_10 c1_i32_11 k0_t1
  let v91 : BitVec 32 := Scalar.muli c4_i32_61 arg14
  let c2_i32_62 : BitVec 32 := 2#32
  let v92 : BitVec 32 := Scalar.addi v91 c2_i32_62
  let c125_i32_63 : BitVec 32 := 125#32
  let v94 : BitVec 1 := Scalar.cmpi .slt v92 c125_i32_63
  let v95 : BitVec 32 := Scalar.extui v94
  let c0_i32_64 : BitVec 32 := 0#32
  let v96 : BitVec 1 := Scalar.cmpi .ne v95 c0_i32_64
  v96

def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_61 : BitVec 32 := 4#32
  let c0_i32_10 : BitVec 32 := 0#32
  let c1_i32_11 : BitVec 32 := 1#32
  let arg14 : BitVec 32 := Scf.iv c0_i32_10 c1_i32_11 k0_t1
  let v91 : BitVec 32 := Scalar.muli c4_i32_61 arg14
  let c2_i32_62 : BitVec 32 := 2#32
  let v92 : BitVec 32 := Scalar.addi v91 c2_i32_62
  let v93 : BitVec 32 := Scalar.addi v2 v92
  let c4_i32_115 : BitVec 32 := 4#32
  let v157 : BitVec 32 := Scalar.addi v93 c4_i32_115
  let c1_i32_116 : BitVec 32 := 1#32
  let v158 : BitVec 32 := Scalar.subi v157 c1_i32_116
  let c0_i32_117 : BitVec 32 := 0#32
  ![v158.toNat, 0]
@[reducible] def k0_t8_loop : Scf.Loop 32 :=
  let c0_i32_68 : BitVec 32 := 0#32
  let c64_i32_69 : BitVec 32 := 64#32
  let v101 : BitVec 32 := Scalar.addi c0_i32_68 c64_i32_69
  let c1_i32_70 : BitVec 32 := 1#32
  ⟨c0_i32_68, v101, c1_i32_70⟩
def k0_off15 (k0_t8 : Fin k0_t8_loop.trips) : Fin 1 → Nat :=
  let c0_i32_68 : BitVec 32 := 0#32
  let c1_i32_70 : BitVec 32 := 1#32
  let arg16 : BitVec 32 := Scf.iv c0_i32_68 c1_i32_70 k0_t8
  let c16_i32 : BitVec 32 := 16#32
  let v157 : BitVec 32 := Scalar.muli arg16 c16_i32
  let v158 : Index := Scalar.indexCast v157
  ![v158.toNat]
@[reducible] def k0_t9_loop : Scf.Loop 32 :=
  let c0_i32_74 : BitVec 32 := 0#32
  let c256_i32_75 : BitVec 32 := 256#32
  let v107 : BitVec 32 := Scalar.addi c0_i32_74 c256_i32_75
  let c1_i32_76 : BitVec 32 := 1#32
  ⟨c0_i32_74, v107, c1_i32_76⟩

def k0_chk7 (arg17 : IVec S16 32) : Prop :=
  (∀ a x, ((![arg17] : Fin 1 → IVec S16 32) a x).toNat < S8192.size a)
theorem k0_idx7_inb : ∀ (arg17 : IVec S16 32) (k0_hw7 : k0_chk7 arg17), ∀ a x, ((![arg17] : Fin 1 → IVec S16 32) a x).toNat < S8192.size a := fun arg17 k0_hw7 => k0_hw7

def k0_chk8 (arg18 : IVec S16 32) : Prop :=
  (∀ a x, ((![arg18] : Fin 1 → IVec S16 32) a x).toNat < S8192.size a)
theorem k0_idx8_inb : ∀ (arg18 : IVec S16 32) (k0_hw8 : k0_chk8 arg18), ∀ a x, ((![arg18] : Fin 1 → IVec S16 32) a x).toNat < S8192.size a := fun arg18 k0_hw8 => k0_hw8

def k0_chk9 (v162 : IVec S16 32) : Prop :=
  (∀ a x, ((![v162] : Fin 1 → IVec S16 32) a x).toNat < S1024.size a)
theorem k0_idx9_inb : ∀ (v162 : IVec S16 32) (k0_hw9 : k0_chk9 v162), ∀ a x, ((![v162] : Fin 1 → IVec S16 32) a x).toNat < S1024.size a := fun v162 k0_hw9 => k0_hw9
@[reducible] def k0_t10_loop : Scf.Loop 32 :=
  let c0_i32_80 : BitVec 32 := 0#32
  let c4_i32_81 : BitVec 32 := 4#32
  let v110 : BitVec 32 := Scalar.addi c0_i32_80 c4_i32_81
  let c1_i32_82 : BitVec 32 := 1#32
  ⟨c0_i32_80, v110, c1_i32_82⟩
def k0_off16 (k0_t10 : Fin k0_t10_loop.trips) : Fin 1 → Nat :=
  let c0_i32_80 : BitVec 32 := 0#32
  let c1_i32_82 : BitVec 32 := 1#32
  let arg16 : BitVec 32 := Scf.iv c0_i32_80 c1_i32_82 k0_t10
  let c16_i32 : BitVec 32 := 16#32
  let v157 : BitVec 32 := Scalar.muli arg16 c16_i32
  let v158 : Index := Scalar.indexCast v157
  ![v158.toNat]
def k0_off17 (k0_t10 : Fin k0_t10_loop.trips) (c64_i32_116 : BitVec 32) : Fin 1 → Nat :=
  let c0_i32_80 : BitVec 32 := 0#32
  let c1_i32_82 : BitVec 32 := 1#32
  let arg16 : BitVec 32 := Scf.iv c0_i32_80 c1_i32_82 k0_t10
  let c16_i32_115 : BitVec 32 := 16#32
  let v160 : BitVec 32 := Scalar.muli arg16 c16_i32_115
  let v161 : BitVec 32 := Scalar.addi c64_i32_116 v160
  let v162 : Index := Scalar.indexCast v161
  ![v162.toNat]
def k0_off18 (k0_t1 : Fin k0_t1_loop.trips) (k0_t10 : Fin k0_t10_loop.trips) : Fin 1 → Nat :=
  let c4_i32_61 : BitVec 32 := 4#32
  let c0_i32_10 : BitVec 32 := 0#32
  let c1_i32_11 : BitVec 32 := 1#32
  let arg14 : BitVec 32 := Scf.iv c0_i32_10 c1_i32_11 k0_t1
  let v91 : BitVec 32 := Scalar.muli c4_i32_61 arg14
  let c2_i32_62 : BitVec 32 := 2#32
  let v92 : BitVec 32 := Scalar.addi v91 c2_i32_62
  let c128_i32_78 : BitVec 32 := 128#32
  let v109 : BitVec 32 := Scalar.muli v92 c128_i32_78
  let c0_i32_80 : BitVec 32 := 0#32
  let c1_i32_82 : BitVec 32 := 1#32
  let arg16 : BitVec 32 := Scf.iv c0_i32_80 c1_i32_82 k0_t10
  let c16_i32_133 : BitVec 32 := 16#32
  let v235 : BitVec 32 := Scalar.muli arg16 c16_i32_133
  let v236 : BitVec 32 := Scalar.addi v109 v235
  let v237 : Index := Scalar.indexCast v236
  ![v237.toNat]
def k0_cond4 (k0_t1 : Fin k0_t1_loop.trips) : BitVec 1 :=
  let c4_i32_88 : BitVec 32 := 4#32
  let c0_i32_10 : BitVec 32 := 0#32
  let c1_i32_11 : BitVec 32 := 1#32
  let arg14 : BitVec 32 := Scf.iv c0_i32_10 c1_i32_11 k0_t1
  let v124 : BitVec 32 := Scalar.muli c4_i32_88 arg14
  let c3_i32 : BitVec 32 := 3#32
  let v125 : BitVec 32 := Scalar.addi v124 c3_i32
  let c125_i32_89 : BitVec 32 := 125#32
  let v127 : BitVec 1 := Scalar.cmpi .slt v125 c125_i32_89
  let v128 : BitVec 32 := Scalar.extui v127
  let c0_i32_90 : BitVec 32 := 0#32
  let v129 : BitVec 1 := Scalar.cmpi .ne v128 c0_i32_90
  v129

def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_88 : BitVec 32 := 4#32
  let c0_i32_10 : BitVec 32 := 0#32
  let c1_i32_11 : BitVec 32 := 1#32
  let arg14 : BitVec 32 := Scf.iv c0_i32_10 c1_i32_11 k0_t1
  let v124 : BitVec 32 := Scalar.muli c4_i32_88 arg14
  let c3_i32 : BitVec 32 := 3#32
  let v125 : BitVec 32 := Scalar.addi v124 c3_i32
  let v126 : BitVec 32 := Scalar.addi v2 v125
  let c4_i32_115 : BitVec 32 := 4#32
  let v157 : BitVec 32 := Scalar.addi v126 c4_i32_115
  let c1_i32_116 : BitVec 32 := 1#32
  let v158 : BitVec 32 := Scalar.subi v157 c1_i32_116
  let c0_i32_117 : BitVec 32 := 0#32
  ![v158.toNat, 0]
@[reducible] def k0_t11_loop : Scf.Loop 32 :=
  let c0_i32_94 : BitVec 32 := 0#32
  let c64_i32_95 : BitVec 32 := 64#32
  let v134 : BitVec 32 := Scalar.addi c0_i32_94 c64_i32_95
  let c1_i32_96 : BitVec 32 := 1#32
  ⟨c0_i32_94, v134, c1_i32_96⟩
def k0_off20 (k0_t11 : Fin k0_t11_loop.trips) : Fin 1 → Nat :=
  let c0_i32_94 : BitVec 32 := 0#32
  let c1_i32_96 : BitVec 32 := 1#32
  let arg16 : BitVec 32 := Scf.iv c0_i32_94 c1_i32_96 k0_t11
  let c16_i32 : BitVec 32 := 16#32
  let v157 : BitVec 32 := Scalar.muli arg16 c16_i32
  let v158 : Index := Scalar.indexCast v157
  ![v158.toNat]
@[reducible] def k0_t12_loop : Scf.Loop 32 :=
  let c0_i32_100 : BitVec 32 := 0#32
  let c256_i32_101 : BitVec 32 := 256#32
  let v140 : BitVec 32 := Scalar.addi c0_i32_100 c256_i32_101
  let c1_i32_102 : BitVec 32 := 1#32
  ⟨c0_i32_100, v140, c1_i32_102⟩

def k0_chk10 (arg17 : IVec S16 32) : Prop :=
  (∀ a x, ((![arg17] : Fin 1 → IVec S16 32) a x).toNat < S8192.size a)
theorem k0_idx10_inb : ∀ (arg17 : IVec S16 32) (k0_hw10 : k0_chk10 arg17), ∀ a x, ((![arg17] : Fin 1 → IVec S16 32) a x).toNat < S8192.size a := fun arg17 k0_hw10 => k0_hw10

def k0_chk11 (arg18 : IVec S16 32) : Prop :=
  (∀ a x, ((![arg18] : Fin 1 → IVec S16 32) a x).toNat < S8192.size a)
theorem k0_idx11_inb : ∀ (arg18 : IVec S16 32) (k0_hw11 : k0_chk11 arg18), ∀ a x, ((![arg18] : Fin 1 → IVec S16 32) a x).toNat < S8192.size a := fun arg18 k0_hw11 => k0_hw11

def k0_chk12 (v162 : IVec S16 32) : Prop :=
  (∀ a x, ((![v162] : Fin 1 → IVec S16 32) a x).toNat < S1024.size a)
theorem k0_idx12_inb : ∀ (v162 : IVec S16 32) (k0_hw12 : k0_chk12 v162), ∀ a x, ((![v162] : Fin 1 → IVec S16 32) a x).toNat < S1024.size a := fun v162 k0_hw12 => k0_hw12
@[reducible] def k0_t13_loop : Scf.Loop 32 :=
  let c0_i32_106 : BitVec 32 := 0#32
  let c4_i32_107 : BitVec 32 := 4#32
  let v143 : BitVec 32 := Scalar.addi c0_i32_106 c4_i32_107
  let c1_i32_108 : BitVec 32 := 1#32
  ⟨c0_i32_106, v143, c1_i32_108⟩
def k0_off21 (k0_t13 : Fin k0_t13_loop.trips) : Fin 1 → Nat :=
  let c0_i32_106 : BitVec 32 := 0#32
  let c1_i32_108 : BitVec 32 := 1#32
  let arg16 : BitVec 32 := Scf.iv c0_i32_106 c1_i32_108 k0_t13
  let c16_i32 : BitVec 32 := 16#32
  let v157 : BitVec 32 := Scalar.muli arg16 c16_i32
  let v158 : Index := Scalar.indexCast v157
  ![v158.toNat]
def k0_off22 (k0_t13 : Fin k0_t13_loop.trips) (c64_i32_116 : BitVec 32) : Fin 1 → Nat :=
  let c0_i32_106 : BitVec 32 := 0#32
  let c1_i32_108 : BitVec 32 := 1#32
  let arg16 : BitVec 32 := Scf.iv c0_i32_106 c1_i32_108 k0_t13
  let c16_i32_115 : BitVec 32 := 16#32
  let v160 : BitVec 32 := Scalar.muli arg16 c16_i32_115
  let v161 : BitVec 32 := Scalar.addi c64_i32_116 v160
  let v162 : Index := Scalar.indexCast v161
  ![v162.toNat]
def k0_off23 (k0_t1 : Fin k0_t1_loop.trips) (k0_t13 : Fin k0_t13_loop.trips) : Fin 1 → Nat :=
  let c4_i32_88 : BitVec 32 := 4#32
  let c0_i32_10 : BitVec 32 := 0#32
  let c1_i32_11 : BitVec 32 := 1#32
  let arg14 : BitVec 32 := Scf.iv c0_i32_10 c1_i32_11 k0_t1
  let v124 : BitVec 32 := Scalar.muli c4_i32_88 arg14
  let c3_i32 : BitVec 32 := 3#32
  let v125 : BitVec 32 := Scalar.addi v124 c3_i32
  let c128_i32_104 : BitVec 32 := 128#32
  let v142 : BitVec 32 := Scalar.muli v125 c128_i32_104
  let c0_i32_106 : BitVec 32 := 0#32
  let c1_i32_108 : BitVec 32 := 1#32
  let arg16 : BitVec 32 := Scf.iv c0_i32_106 c1_i32_108 k0_t13
  let c16_i32_133 : BitVec 32 := 16#32
  let v235 : BitVec 32 := Scalar.muli arg16 c16_i32_133
  let v236 : BitVec 32 := Scalar.addi v142 v235
  let v237 : Index := Scalar.indexCast v236
  ![v237.toNat]
def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x64x64x2 : Shape := ⟨4, ![4096, 64, 64, 2]⟩
abbrev S4096x64x64x1 : Shape := ⟨4, ![4096, 64, 64, 1]⟩
abbrev S4096x64x64 : Shape := ⟨3, ![4096, 64, 64]⟩
abbrev S_ : Shape := ⟨0, ![]⟩
abbrev S4096x4096 : Shape := ⟨2, ![4096, 4096]⟩
abbrev S1x1x128 : Shape := ⟨3, ![1, 1, 128]⟩
abbrev S4096x4096x1 : Shape := ⟨3, ![4096, 4096, 1]⟩
abbrev S4096x4096x128 : Shape := ⟨3, ![4096, 4096, 128]⟩
abbrev S4096x128 : Shape := ⟨2, ![4096, 128]⟩

abbrev nBuf : Space → Nat
  | .hbm => 18
  | .vmem => 0
  | .smem => 0
  | _ => 0

abbrev bufTy : (tb : Table) → Fin (tcTables nBuf tb) → BufTy
  | .hbm, ⟨0, _⟩ => ⟨S4096x64x64x2, .i32⟩
  | .hbm, ⟨1, _⟩ => ⟨S4096x64x64x1, .i32⟩
  | .hbm, ⟨2, _⟩ => ⟨S4096x64x64, .i32⟩
  | .hbm, ⟨3, _⟩ => ⟨S_, .i32⟩
  | .hbm, ⟨4, _⟩ => ⟨S4096x64x64, .i32⟩
  | .hbm, ⟨5, _⟩ => ⟨S4096x64x64, .i32⟩
  | .hbm, ⟨6, _⟩ => ⟨S4096x64x64x1, .i32⟩
  | .hbm, ⟨7, _⟩ => ⟨S4096x64x64, .i32⟩
  | .hbm, ⟨8, _⟩ => ⟨S4096x64x64, .i32⟩
  | .hbm, ⟨9, _⟩ => ⟨S4096x4096, .i32⟩
  | .hbm, ⟨10, _⟩ => ⟨S1x1x128, .i32⟩
  | .hbm, ⟨11, _⟩ => ⟨S4096x4096x1, .i32⟩
  | .hbm, ⟨12, _⟩ => ⟨S4096x4096x128, .i32⟩
  | .hbm, ⟨13, _⟩ => ⟨S4096x4096x128, .i32⟩
  | .hbm, ⟨14, _⟩ => ⟨S4096x4096x128, .i1⟩
  | .hbm, ⟨15, _⟩ => ⟨S4096x4096x128, .i32⟩
  | .hbm, ⟨16, _⟩ => ⟨S_, .i32⟩
  | .hbm, ⟨17, _⟩ => ⟨S4096x128, .i32⟩
  | _, _ => ⟨S4096x64x64x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c_0 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.Steps.lean ====
/-
  The machine's rules over a memref of one axis whose contents are a function of the position: a load of 16 words, a
  store of 16 words, on the thread of one tile.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Transfers
public import Idealize.ShloMosaic.Lib.WritesUnit
public import Idealize.ShloMosaic.Lib.ViewIndex
public import Mathlib.Data.BitVec
public import proofs.«01_k».proof.Proof.Gen.KernelIdeal
public import proofs.«01_k».proof.Proof.Gen.KernelIdeal.Skeleton

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The launch's ghost state: the handshakes' rounds beside the transfers' counters. -/
abbrev UH : Type := URounds (GSem nD τ sig) ℕ
/-- The ghost state: the handshakes' and the copies' counters. -/
abbrev UU : Type := UH × Counters

local notation "𝕄" => MT nD τ sig (HIx 1) (Elt F) ℕ UU ℕ

/-- The thread of the tile at grid coordinates `i`. -/
abbrev thr (d : Dev nD) (i : grid0.Coords) : Thread nD τ := V d ((i 0).castLE hcore0) ((i 1).castLE hsub0)

/-- The program's type on that tile. -/
abbrev TProg (F : FTy → Type) (i : grid0.Coords) (α : Type) : Type _ :=
  Prog (TpuEff nD τ sig (Elt F) Λ₀ (.scVector ((i 0).castLE hcore0) ((i 1).castLE hsub0))) α

variable [FloatOps F]

/-- The weakest precondition of a program of the tile, with nothing else around it. -/
abbrev wpT (d : Dev nD) (i : grid0.Coords) {α : Type} (p : TProg F i α) (Q : α → sProp (MT nD τ sig (HIx 1) (Elt F) ℕ UU ℕ)) :
    sProp (MT nD τ sig (HIx 1) (Elt F) ℕ UU ℕ) :=
  wp frame (wpE (defs₀ (F := F)) Variants.none (thr d i) none) Set.univ p Q

/-- The tile owns the one-axis memref `M`, which holds `g n` at position `n`. -/
def Own (d : Dev nD) (i : grid0.Coords) {sp : Space} {n : ℕ} (M : Memref sig .scVector sp ⟨1, ![n]⟩ .i32) (g : ℕ → BitVec 32) :
    sProp (MT nD τ sig (HIx 1) (Elt F) ℕ UU ℕ) :=
  iprop(∃ f, ⌜M.view.read (Elt F) f = fun y => g (y 0).val⌝ ∗ (M.view.loc (thr d i) ↦[M.view.set]{fullShare} f))

variable (d : Dev nD) (i : grid0.Coords)

/-- A load of 16 words from position `o`: lane `j` gets the word at `o + j`. -/
theorem wp_ld {n : ℕ} {cs : CoreSpace} {M : Memref sig .scVector cs ⟨1, ![n]⟩ .i32} {g : ℕ → BitVec 32} {off : Fin 1 → ℕ} (o : ℕ)
    (ho : off = ![o]) {inb : ∀ a, off a + S16.size a ≤ (⟨1, ![n]⟩ : Shape).size a}
    {hl : M.view.LoadsAt (Rect.unit (s := ⟨1, ![n]⟩) off S16.size inb).toLoadRect} {α : Type} {k : Vec F S16 .i32 → TProg F i α}
    {Q : α → sProp 𝕄} :
    Own d i M g ⊢ iprop((Own d i M g -∗ wpT d i (k fun j => g (o + (j 0).val)) Q)
      -∗ wpT d i (.op (.load M (Rect.unit (s := ⟨1, ![n]⟩) off S16.size inb).toLoadRect hl) k) Q) := by
  subst ho
  unfold Own
  iintro ⟨%f, %hf, H⟩ Hk
  iapply (wp_load_rect (c := thr d i) Variants.none none Set.univ (m := M)
    (r := Rect.unit (s := ⟨1, ![n]⟩) ![o] S16.size inb) (k := k) (S := M.view.set) (f := f)
    (by show (M.view.slice _).set ⊆ _; rw [View.set_slice]; exact View.setOn_subset_set _ _)) $$ H
  iintro H
  have hv : (M.access (Rect.unit (s := ⟨1, ![n]⟩) ![o] S16.size inb)).read (Elt F) f = fun j => g (o + (j 0).val) := by
    funext j
    refine (congrFun hf ((Rect.unit (s := ⟨1, ![n]⟩) ![o] S16.size inb).emb j)).trans ?_
    refine congrArg g ?_
    show o + 1 * (j 0).val = _
    rw [Nat.one_mul]
  rw [hv]
  iapply Hk
  iexists f; isplitr; · ipureintro; exact hf
  iexact H

/-- Position `o` to `o + 15` rewritten to `w`. -/
def put (g : ℕ → BitVec 32) (o : ℕ) (w : ℕ → BitVec 32) : ℕ → BitVec 32 :=
  fun n => if o ≤ n ∧ n < o + 16 then w (n - o) else g n

/-- A store of 16 words at position `o`. -/
theorem wp_st {n : ℕ} {cs : CoreSpace} {M : Memref sig .scVector cs ⟨1, ![n]⟩ .i32} {g : ℕ → BitVec 32} {off : Fin 1 → ℕ} (o : ℕ)
    (ho : off = ![o]) {inb : ∀ a, off a + S16.size a ≤ (⟨1, ![n]⟩ : Shape).size a} {v : Vec F S16 .i32} (w : ℕ → BitVec 32)
    (hw : ∀ j : S16.Idx, v j = w (j 0).val)
    {hx : (M.access (Rect.unit (s := ⟨1, ![n]⟩) off S16.size inb)).Stores Finset.univ} {hm} {α : Type} {k : PUnit → TProg F i α}
    {Q : α → sProp 𝕄} :
    Own d i M g ⊢ iprop((Own d i M (put g o w) -∗ wpT d i (k ⟨⟩) Q)
      -∗ wpT d i (.op (.store M (Rect.unit (s := ⟨1, ![n]⟩) off S16.size inb) v Finset.univ hx hm) k) Q) := by
  subst ho
  unfold Own
  iintro ⟨%f, %hf, H⟩ Hk
  iapply (wp_store (c := thr d i) Variants.none none Set.univ (m := M)
    (r := Rect.unit (s := ⟨1, ![n]⟩) ![o] S16.size inb) (w := v) (Mk := Finset.univ) (k := k) (S := M.view.set) (f := f)
    (by rw [View.setOn_univ]; show (M.view.slice _).set ⊆ _; rw [View.set_slice]; exact View.setOn_subset_set _ _)) $$ H
  iintro H
  iapply Hk
  iexists _; isplitr
  swap; · iexact H
  ipureintro
  funext y
  refine (View.read_writes_cons_unit M.view f inb v [] y rfl).trans ?_
  by_cases h : ∀ a, (![o] : Fin 1 → ℕ) a ≤ (y a).val ∧ (y a).val < (![o] : Fin 1 → ℕ) a + S16.size a
  · rw [dif_pos h, hw, put]
    exact (if_pos (c := o ≤ (y 0).val ∧ (y 0).val < o + 16) (h 0)).symm
  · rw [dif_neg h, put, if_neg (fun h0 => h fun a => by obtain rfl : a = 0 := Subsingleton.elim _ _; exact h0)]
    exact congrFun hf y

/-- A memref's whole-rectangle view covers the memref's elements, -/
theorem set_access_whole {sp : Space} {s : Shape} (M : Memref sig .scVector sp s .i32) : (M.access (.whole s)).set = M.view.set := by
  show (M.view.slice _).set = _
  rw [View.set_slice, Rect.set_whole]; rfl

/-- and reads the same. -/
theorem read_access_whole {sp : Space} {s : Shape} (M : Memref sig .scVector sp s .i32) (f : M.view.ty.Contents (Elt F)) :
    (M.access (.whole s)).read (Elt F) f = M.view.read (Elt F) f := by
  funext x
  show M.view.read (Elt F) f ((Rect.whole s).emb x) = _
  rw [Rect.emb_whole_apply]

/-- What is written through it is read back through the memref. -/
theorem read_write_whole {sp : Space} {s : Shape} (M : Memref sig .scVector sp s .i32) (f : M.view.ty.Contents (Elt F))
    (w : s.Idx → Elt F .i32) :
    M.view.read (Elt F) ((M.access (.whole s)).write (Elt F) f w Finset.univ) = w := by
  funext x
  have h := View.read_slice_write_emb (v := M.view) (Val := Elt F) (Rect.whole s) f w (Finset.mem_univ x)
  rwa [Rect.emb_whole_apply] at h

/-- A gather of 16 words by the positions `p`. -/
theorem wp_gather {n : ℕ} {M : Memref sig .scVector .vmem ⟨1, ![n]⟩ .i32} {g : ℕ → BitVec 32} {p : IVec S16 32}
    {h : ∀ a x, ((![p] : Fin 1 → IVec S16 32) a x).toNat < (⟨1, ![n]⟩ : Shape).size a} {hl : M.view.Loads} {α : Type}
    {k : Vec F S16 .i32 → TProg F i α} {Q : α → sProp 𝕄} :
    Own d i M g ⊢ iprop((Own d i M g -∗ wpT d i (k fun j => g (p j).toNat) Q)
      -∗ wpT d i (SparseCore.vectorLoadIdx M ![p] h hl >>= k) Q) := by
  unfold Own
  iintro ⟨%f, %hf, H⟩ Hk
  iapply (SparseCore.wp_vectorLoadIdx (c := thr d i) Variants.none none Set.univ (base := M) (idxs := ![p]) (k := k)
    (S := M.view.set) (f := f) (by rw [set_access_whole])) $$ H
  iintro H
  have hv : loadIdx ((M.access (.whole ⟨1, ![n]⟩)).read (Elt F) f) ![p] h = fun j => g (p j).toNat := by
    rw [read_access_whole, hf]; rfl
  rw [hv]
  iapply Hk
  iexists f; isplitr; · ipureintro; exact hf
  iexact H

/-- What an adding scatter of `v` at the positions `p` leaves at position `n`: what was there, plus every lane's word
    whose position it is. -/
def scat (g : ℕ → BitVec 32) (p v : ℕ → BitVec 32) : ℕ → BitVec 32 :=
  fun n => g n + ∑ l ∈ Finset.range 16, if (p l).toNat = n then v l else 0

omit [FloatOps F] in
/-- The fold over the lanes, from the first lane up: each adds its word where it points. -/
theorem foldl_add {s : Shape} (L : List (Fin 16)) (f : s.Idx → BitVec 32) (ix : Fin 16 → s.Idx) (v : Fin 16 → BitVec 32) (j : s.Idx) :
    L.foldl (fun g l => fun j => if (∀ a, (j a).val = (ix l a).val) then g (ix l) + v l else g j) f j
      = f j + (L.map fun l => if (∀ a, (j a).val = (ix l a).val) then v l else 0).sum := by
  induction L generalizing f with
  | nil => simp
  | cons l L ih =>
    rw [List.foldl_cons, ih, List.map_cons, List.sum_cons]
    by_cases h : ∀ a, (j a).val = (ix l a).val
    · rw [if_pos h, if_pos h, show j = ix l from funext fun a => Fin.ext (h a)]; simp only [add_assoc]
    · rw [if_neg h, if_neg h]; simp only [zero_add]

/-- An adding scatter of 16 words, every lane on. -/
theorem wp_scatter {n : ℕ} {M : Memref sig .scVector .vmem ⟨1, ![n]⟩ .i32} {g : ℕ → BitVec 32} {p : IVec S16 32} {v : Vec F S16 .i32}
    (pn vn : ℕ → BitVec 32) (hp : ∀ j : S16.Idx, p j = pn (j 0).val) (hv : ∀ j : S16.Idx, v j = vn (j 0).val)
    {h : ∀ a x, ((![p] : Fin 1 → IVec S16 32) a x).toNat < (⟨1, ![n]⟩ : Shape).size a}
    {hs : (M.access (.whole ⟨1, ![n]⟩)).Stores Finset.univ} {α : Type}
    {k : PUnit → TProg F i α} {Q : α → sProp 𝕄} :
    Own d i M g ⊢ iprop((Own d i M (scat g pn vn) -∗ wpT d i (k ⟨⟩) Q)
      -∗ wpT d i (SparseCore.vectorStoreIdx M ![p] v (fun _ => 1#1) true h hs >>= k) Q) := by
  unfold Own
  iintro ⟨%f, %hf, H⟩ Hk
  rw [← set_access_whole]
  iapply (SparseCore.wp_vectorStoreIdx (c := thr d i) Variants.none none Set.univ (base := M) (idxs := ![p]) (v := v)
    (mask := fun _ => 1#1) (add := true) (k := k) (f := f)) $$ H
  iintro H
  iapply Hk
  iexists _; isplitr
  swap; · iexact H
  ipureintro
  rw [read_write_whole, read_access_whole, hf]
  funext y
  unfold storeIdx
  simp only [show ((1#1 : BitVec 1) = 1) = True from eq_self _, if_true, Elt.idxAdd_i32]
  refine (foldl_add (s := ⟨1, ![n]⟩) (List.finRange 16) (fun y => g (y 0).val) (fun l => idxAt (s := ⟨1, ![n]⟩) ![p] h (Shape.ofLane l))
    (fun l => v (Shape.ofLane l)) y).trans ?_
  rw [scat]
  refine congrArg _ ?_
  rw [Finset.sum_range, ← List.sum_ofFn, List.ofFn_eq_map]
  refine congrArg List.sum (List.map_congr_left fun l _ => ?_)
  rw [hv]
  refine if_congr ⟨fun h0 => ?_, fun h0 a => ?_⟩ rfl rfl
  · exact (congrArg BitVec.toNat (hp (Shape.ofLane l))).symm.trans (h0 0).symm
  · obtain rfl : a = 0 := Subsingleton.elim _ _
    exact h0.symm.trans (congrArg BitVec.toNat (hp (Shape.ofLane l))).symm

end Cert.Proof.Hist
end
-- ==== Proof.Count.lean ====
/-
  Counting: the occurrences of a number among the ids of a row of observations, the sixteen-lane histogram the kernel
  builds of them sixteen ids at a time, and the sum over the lanes, which is the count.
-/
module

public import proofs.«01_k».proof.Proof.Steps

@[expose] public section

namespace Cert.Proof.Hist

/-- The id of observation `t` of a row: its two words as the digits of a base-8 number. -/
def idn (x : ℕ → BitVec 32) (t : ℕ) : ℕ := (x (2 * t)).toNat * 8 + (x (2 * t + 1)).toNat

/-- How many of a row's 4096 ids are `v`. -/
def cnt (x : ℕ → BitVec 32) (v : ℕ) : BitVec 32 := ∑ t ∈ Finset.range 4096, if idn x t = v then 1 else 0

/-- The word of the sixteen-lane histogram that lane `l` increments on trip `k`. -/
def addr (x : ℕ → BitVec 32) (k l : ℕ) : ℕ := l * 64 + idn x (16 * k + l)

/-- The sixteen-lane histogram after `k` trips. -/
def histN (x : ℕ → BitVec 32) (k n : ℕ) : BitVec 32 :=
  ∑ i ∈ Finset.range k, ∑ l ∈ Finset.range 16, if addr x i l = n then 1 else 0

/-- Before the first trip the histogram is zero. -/
theorem histN_zero (x : ℕ → BitVec 32) (n : ℕ) : histN x 0 n = 0 := Finset.sum_range_zero _

/-- A trip adds one for each lane at the word that the lane increments. -/
theorem histN_succ (x : ℕ → BitVec 32) (k n : ℕ) :
    histN x (k + 1) n = histN x k n + ∑ l ∈ Finset.range 16, if addr x k l = n then 1 else 0 := Finset.sum_range_succ _ _

/-- A row all of whose words are digits: its ids are below 64. -/
def Digits (x : ℕ → BitVec 32) : Prop := ∀ t, (x t).toNat < 8

/-- An id of digits is below 64. -/
theorem idn_lt {x : ℕ → BitVec 32} (h : Digits x) (t : ℕ) : idn x t < 64 := by
  have h0 := h (2 * t); have h1 := h (2 * t + 1)
  unfold idn; omega

/-- A number that is no id is counted zero times. -/
theorem cnt_of_le {x : ℕ → BitVec 32} (h : Digits x) {v : ℕ} (hv : 64 ≤ v) : cnt x v = 0 :=
  Finset.sum_eq_zero fun t _ => if_neg (by have := idn_lt h t; omega)

/-- A sum over `16 k` positions, sixteen at a time. -/
theorem sum_by_sixteens (f : ℕ → BitVec 32) (k : ℕ) :
    ∑ i ∈ Finset.range k, ∑ l ∈ Finset.range 16, f (16 * i + l) = ∑ t ∈ Finset.range (16 * k), f t := by
  induction k with
  | zero => simp
  | succ k ih => rw [Finset.sum_range_succ, ih, Nat.mul_succ, Finset.sum_range_add]

/-- The lanes' words for `v`, summed, are the count of `v`. -/
theorem sum_lanes {x : ℕ → BitVec 32} (h : Digits x) {v : ℕ} (hv : v < 64) :
    ∑ l ∈ Finset.range 16, histN x 256 (64 * l + v) = cnt x v := by
  unfold histN cnt
  rw [Finset.sum_comm, show (4096 : ℕ) = 16 * 256 from rfl, ← sum_by_sixteens]
  refine Finset.sum_congr rfl fun i _ => ?_
  rw [Finset.sum_comm]
  refine Finset.sum_congr rfl fun l hl => ?_
  have hid := idn_lt h (16 * i + l)
  rw [Finset.sum_eq_single_of_mem l hl fun l' _ hne => if_neg (by unfold addr; omega)]
  unfold addr
  exact if_congr (by omega) rfl rfl

end Cert.Proof.Hist
end
-- ==== Proof.Copies.lean ====
/-
  One row of the observations fetched into a tile's buffer: the row's elements, the fetch in flight, and the two rules
  — start the fetch, wait for it — that every buffer and semaphore of the tile uses.
-/
module

public import proofs.«01_k».proof.Proof.Steps
public import Idealize.ShloMosaic.Lib.ValueIdxCore

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

/-- Row `off 0` of a two-axis array, sliced and squeezed to one axis. -/
abbrev rowOf {R N : ℕ} (M : Memref sig .scVector .hbm ⟨2, ![R, N]⟩ .i32) (off : Fin 2 → ℕ)
    (inb : ∀ a, off a + (![1, N] : Fin 2 → ℕ) a ≤ (⟨2, ![R, N]⟩ : Shape).size a) (sq : (⟨2, ![1, N]⟩ : Shape).Squeezes ⟨1, ![N]⟩) :
    Memref sig .scVector .hbm ⟨1, ![N]⟩ .i32 :=
  (M.slice (Rect.unit (s := ⟨2, ![R, N]⟩) off ![1, N] inb) (fun _ => rfl)).squeeze ⟨1, ![N]⟩ sq

/-- A whole row lies inside its array. -/
theorem row_inb {R N n : ℕ} (h : n < R) : ∀ a, (![n, 0] : Fin 2 → ℕ) a + (![1, N] : Fin 2 → ℕ) a ≤ (⟨2, ![R, N]⟩ : Shape).size a := by
  intro a
  match a with
  | ⟨0, _⟩ => show n + 1 ≤ R; omega
  | ⟨1, _⟩ => show 0 + N ≤ N; omega

/-- Word `y` of row `n` is the array's element `(n, y)`. -/
theorem rowOf_emb {R N : ℕ} (M : Memref sig .scVector .hbm ⟨2, ![R, N]⟩ .i32) {n : ℕ} (h : n < R)
    (sq : (⟨2, ![1, N]⟩ : Shape).Squeezes ⟨1, ![N]⟩) (y : (⟨1, ![N]⟩ : Shape).Idx) :
    (rowOf M ![n, 0] (row_inb h) sq).view.emb y = M.view.emb (ix2 ⟨n, h⟩ (y 0)) := by
  show M.view.emb ((Rect.unit (s := ⟨2, ![R, N]⟩) ![n, 0] ![1, N] (row_inb h)).emb (Shape.reshapeEquiv sq.numel_eq y)) = _
  refine congrArg M.view.emb ?_
  rw [show Shape.reshapeEquiv sq.numel_eq y = Fin.cons ⟨0, Nat.one_pos⟩ y from Shape.reshapeEquiv_cons_one _ y]
  funext a
  refine Fin.ext ?_
  match a with
  | ⟨0, _⟩ => show n + 1 * 0 = n; omega
  | ⟨1, _⟩ => show 0 + 1 * (y 0).val = (y 0).val; omega

/-- The observations' array and the counts' array, as a tile addresses them. -/
abbrev obsM : Memref sig .scVector .hbm S4096x8192 .i32 := Memref.whole main_v0_scv
/-- The counts' array, whole. -/
abbrev outM : Memref sig .scVector .hbm S32x16384 .i32 := Memref.whole main_v1_scv

/-- The words of row `n` of the observations, by their positions. -/
def rowN (X : S4096x8192.Idx → BitVec 32) (n t : ℕ) : BitVec 32 :=
  if h : n < 4096 ∧ t < 8192 then X (ix2 ⟨n, h.1⟩ ⟨t, h.2⟩) else 0

/-- Reading row `n` of the observations gives that row's words by position. -/
theorem row_read {n : ℕ} (h : n < 4096) (X : S4096x8192.Idx → BitVec 32) :
    (rowOf obsM ![n, 0] (row_inb h) squeezes_S1x8192_S8192).view.read (Elt F) X = fun y => rowN X n (y 0).val := by
  funext y
  rw [rowN, dif_pos ⟨h, (y 0).isLt⟩]
  exact congrArg X (rowOf_emb obsM h squeezes_S1x8192_S8192 y)

variable (d : Dev nD) (i : grid0.Coords) (X : S4096x8192.Idx → BitVec 32)

/-- A read share of all the observations. -/
def Obs (q : PosShare TreeShare) : sProp 𝕄 := obsM.view.loc (thr d i) ↦[Finset.univ]{q} (X : Buf (Elt F) (obsM.view.loc (thr d i)))

/-- The embedding of the transfers' counters. -/
abbrev EC : UEmb Counters (MT nD τ sig (HIx 1) (Elt F) ℕ UU ℕ) := countersEmb

/-- Buffer `b` is idle: its contents are whatever they are, its semaphore is at zero, its share of the observations at hand. -/
def Free (b : Memref sig .scVector .vmem S8192 .i32) (sem : DmaSem sig) (q : PosShare TreeShare) : sProp 𝕄 :=
  iprop((∃ g, Own d i b g) ∗ semVal (thr d i, .dma sem) 0 ∗ Obs d i X q)

/-- Row `n` is on its way into buffer `b`: the transfer will hand back the buffer holding the row and the part of the
    share it reads; the rest of the share waits outside. -/
def Pend (b : Memref sig .scVector .vmem S8192 .i32) (sem : DmaSem sig) (q : PosShare TreeShare) (n : ℕ) : sProp 𝕄 :=
  iprop(∃ R : Finset (Idx (obsM.view.loc (thr d i))),
    Transfers.Flight EC (thr d i) (.dma sem) (none : HIx 1) b.view.dmaCredit
      iprop(Own d i b (rowN X n) ∗ (obsM.view.loc (thr d i) ↦[R]{q} (X : Buf (Elt F) (obsM.view.loc (thr d i)))))
    ∗ (obsM.view.loc (thr d i) ↦[Finset.univ \ R]{q} (X : Buf (Elt F) (obsM.view.loc (thr d i)))))

/-- Starting the fetch of row `n`. -/
theorem wp_fetch {b : Memref sig .scVector .vmem S8192 .i32} {sem : DmaSem sig} {q : PosShare TreeShare} {n : ℕ} (hn : n < 4096)
    {off : Fin 2 → ℕ} (ho : off = ![n, 0]) {inb} {h1 h2 h3} {α : Type} {k : PUnit → TProg F i α} {Q : α → sProp 𝕄} :
    Free d i X b sem q ⊢ iprop((Pend d i X b sem q n -∗ wpT d i (k ⟨⟩) Q)
      -∗ wpT d i (.op (.enqueueDma (rowOf obsM off inb squeezes_S1x8192_S8192) (.here b) (.dma sem) h1 h2 h3) k) Q) := by
  subst ho
  unfold Free Obs Own
  iintro ⟨⟨%g, %f, %hf, Hb⟩, Hs, Ho⟩ Hk
  ihave Ho := (pointsTo_split_subset (I := (rowOf obsM ![n, 0] inb squeezes_S1x8192_S8192).view.set) (Finset.subset_univ _)).1 $$ Ho
  icases Ho with ⟨Hr, Ho⟩
  iapply (Transfers.wp_dmaLocal EC Variants.none (thr d i) none (src := rowOf obsM ![n, 0] inb squeezes_S1x8192_S8192) (via := .same)
    (dst := b) (sm := .dma sem) (q := q) (fs := X) (Sd := b.view.set) (fd := f) none b.view.dmaCredit rfl
    (View.dmaCredit_pos _ (by decide)) (Finset.Subset.refl _)) $$ [Hr Hb Hs]
  · isplitl [Hr]; · iexact Hr
    isplitl [Hb]; · iexact Hb
    iexact Hs
  iintro Hf
  iapply Hk
  unfold Pend
  iexists (rowOf obsM ![n, 0] inb squeezes_S1x8192_S8192).view.set
  isplitl [Hf]
  · iapply (Transfers.Flight_mono EC (thr d i) ?_) $$ Hf
    iintro ⟨Hb, Hr⟩
    isplitl [Hb]
    · unfold Own
      iexists _
      isplitr; swap; · iexact Hb
      ipureintro
      exact (View.read_write_univ (v := b.view) f _).trans (row_read hn X)
    iexact Hr
  iexact Ho

/-- Waiting for it. -/
theorem wp_ready {b : Memref sig .scVector .vmem S8192 .i32} {sem : DmaSem sig} {q : PosShare TreeShare} {n : ℕ}
    {O : CellTallies nD τ sig (HIx 1)} {W : Waits sig (HIx 1)} {sp : Space} {s' : Shape} {e' : EltTy} {src : Memref sig .scVector sp s' e'}
    {h1 h2} {α : Type} {k : PUnit → TProg F i α} {Q : α → sProp 𝕄} :
    iprop(Pend d i X b sem q n ∗ owes (thr d i) O W ∗ Transfers.MayWaits (thr d i) (none : HIx 1) O) ⊢
      iprop((Own d i b (rowN X n) ∗ semVal (thr d i, .dma sem) 0 ∗ Obs d i X q ∗ owes (thr d i) O (insert (SemLoc.dma sem, none) W)
        -∗ wpT d i (k ⟨⟩) Q)
      -∗ wpT d i (.op (.waitDma2 sem src b h1 h2) k) Q) := by
  unfold Pend
  iintro ⟨⟨%R, Hf, Ho⟩, HO, Hm⟩ Hk
  ihave Hw := (Transfers.MayWaits.elim (.dma sem)) $$ Hm
  iapply (Transfers.wp_waitLocalO EC Variants.none (thr d i) none none (dstw := b) rfl) $$ [Hf HO Hw]
  · isplitl [Hf]; · iexact Hf
    isplitl [HO]; · iexact HO
    iexact Hw
  iintro ⟨⟨Hb, Hr⟩, Hs, HO⟩
  iapply Hk
  isplitl [Hb]; · iexact Hb
  isplitl [Hs]; · iexact Hs
  isplitl [Hr Ho]
  · unfold Obs
    iapply (pointsTo_split_subset (I := R) (Finset.subset_univ _)).2
    isplitl [Hr]; · iexact Hr
    iexact Ho
  iexact HO

end Cert.Proof.Hist
end
-- ==== Proof.Loops.lean ====
/-
  The three inner loops that make one row's counts: clearing the sixteen-lane histogram, adding the row's ids to it, and
  summing its lanes into the tile's counts. Each is stated for any buffer, so that the four rows of a trip share it.
-/
module

public import proofs.«01_k».proof.Proof.Count
public import proofs.«01_k».proof.Proof.Copies

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

variable (d : Dev nD) (i : grid0.Coords)

/-- A program that is over. -/
theorem wpT_ret {α : Type} {a : α} {Q : α → sProp 𝕄} : Q a ⊢ wpT d i (Prog.ret a) Q := by
  unfold wpT
  rw [wp_ret]
  iintro H
  imodintro
  iexact H

/-- The one-axis memref `A` is right up to position `N`: it holds `T n` at every `n` below. -/
def UpTo {n : ℕ} (A : Memref sig .scVector .vmem ⟨1, ![n]⟩ .i32) (T : ℕ → BitVec 32) (N : ℕ) : sProp 𝕄 :=
  iprop(∃ g, ⌜∀ n < N, g n = T n⌝ ∗ Own d i A g)

/-- A load, then a store of the next 16 words: right up to 16 positions further. -/
theorem wp_next {n : ℕ} {A : Memref sig .scVector .vmem ⟨1, ![n]⟩ .i32} {T : ℕ → BitVec 32} {off : Fin 1 → ℕ} (N : ℕ)
    (ho : off = ![N]) {inb : ∀ a, off a + S16.size a ≤ (⟨1, ![n]⟩ : Shape).size a} {v : Vec F S16 .i32}
    (hv : ∀ j : S16.Idx, v j = T (N + (j 0).val)) {hl}
    {hx : (A.access (Rect.unit (s := ⟨1, ![n]⟩) off S16.size inb)).Stores Finset.univ} {hm} {α : Type} {k : PUnit → TProg F i α}
    {Q : α → sProp 𝕄} :
    UpTo d i A T N ⊢ iprop((UpTo d i A T (N + 16) -∗ wpT d i (k ⟨⟩) Q)
      -∗ wpT d i (.op (.load A (Rect.unit (s := ⟨1, ![n]⟩) off S16.size inb).toLoadRect hl) fun _ =>
        .op (.store A (Rect.unit (s := ⟨1, ![n]⟩) off S16.size inb) v Finset.univ hx hm) k) Q) := by
  unfold UpTo
  iintro ⟨%g, %hg, H⟩ Hk
  iapply (wp_ld d i N ho) $$ H
  iintro H
  iapply (wp_st d i N ho (fun l => T (N + l)) hv) $$ H
  iintro H
  iapply Hk
  iexists _; isplitr; swap; · iexact H
  ipureintro
  intro m hm
  unfold put
  by_cases h : N ≤ m ∧ m < N + 16
  · rw [if_pos h]; exact congrArg T (by omega)
  · rw [if_neg h]; exact hg m (by omega)

/-- One trip of the clearing loop. -/
def zeroBody (H : Memref sig .scVector .vmem S1024 .i32) (v : IVec S16 32) (off : Fin 1 → ℕ)
    (inb : ∀ a, off a + S16.size a ≤ S1024.size a) : TProg F i (BitVec 32) := do
  let _w : Vec F S16 .i32 ← Prog.lift (.load H (Rect.unit (s := S1024) off S16.size inb).toLoadRect (View.loadsAt_vmem h_S16))
  Prog.lift (.store H (Rect.unit (s := S1024) off S16.size inb) v Finset.univ (View.stores_vmem_bits_univ h_S16 rfl) (.inl rfl))
  pure 0#32

/-- The clearing loop: the histogram is zero. -/
theorem wp_zero {H : Memref sig .scVector .vmem S1024 .i32} {v : IVec S16 32} (hv : ∀ j, v j = 0)
    {body : Fin k0_t2_loop.trips → BitVec 32 → TProg F i (BitVec 32)} (off : Fin k0_t2_loop.trips → Fin 1 → ℕ)
    (inb : ∀ k a, off k a + S16.size a ≤ S1024.size a) (ho : ∀ k, off k = ![16 * k.val])
    (hb : ∀ k acc, body k acc = zeroBody i H v (off k) (inb k)) {init : BitVec 32} {α : Type} {kk : BitVec 32 → TProg F i α}
    {Q : α → sProp 𝕄} :
    iprop(∃ g, Own d i H g) ⊢ iprop((∀ acc, UpTo d i H (fun _ => 0) 1024 -∗ wpT d i (kk acc) Q)
      -∗ wpT d i (Scf.Loop.for k0_t2_loop k0_t2_ok init body >>= kk) Q) := by
  iintro ⟨%g, H⟩ Hk
  iapply (Scf.wp_for_bind frame (wpE (defs₀ (F := F)) Variants.none (thr d i) none) Set.univ _ _ _ k0_t2_ok init body
    (fun k _ => UpTo d i H (fun _ => 0) (16 * k)) (fun k acc => by
      rw [hb]
      iintro H
      unfold zeroBody
      iapply (wp_next d i (16 * k.val) (ho k) hv) $$ H
      iintro H
      iapply (wpT_ret d i (a := 0#32))
      iexact H)) $$ [H]
  · unfold UpTo
    iexists g
    isplitr; · ipureintro; intro n hn; omega
    iexact H
  iintro %acc H
  iapply Hk
  iexact H

/-- One trip of the counting loop: two gathers of 16 words of the row make 16 ids, an adding scatter counts them. -/
def gatherBody (B : Memref sig .scVector .vmem S8192 .i32) (H : Memref sig .scVector .vmem S1024 .i32) (v5 v6 : IVec S16 32)
    (p : IVec S16 32 × IVec S16 32) : TProg F i (IVec S16 32 × IVec S16 32) := do
  have h2 : k0_chk2 p.2 := (← Prog.lift (TpuEff.assume (k0_chk2 p.2) (k0_chk2.dec p.2))).down
  have h1 : k0_chk1 p.1 := (← Prog.lift (TpuEff.assume (k0_chk1 p.1) (k0_chk1.dec p.1))).down
  let a : Vec F S16 .i32 ← SparseCore.vectorLoadIdx B ![p.1] (k0_idx1_inb p.1 h1) (View.loads_vmem h_S8192)
  let b : Vec F S16 .i32 ← SparseCore.vectorLoadIdx B ![p.2] (k0_idx2_inb p.2 h2) (View.loads_vmem h_S8192)
  have h3 : k0_chk3 (k0_pay7 (F := F) v5 a b) := (← Prog.lift (TpuEff.assume (k0_chk3 (k0_pay7 (F := F) v5 a b)) (k0_chk3.dec _))).down
  SparseCore.vectorStoreIdx H ![k0_pay7 (F := F) v5 a b] v6 (fun _ => 1#1) true (k0_idx3_inb _ h3) (View.stores_vmem_bits_univ h_S1024 rfl)
  pure (k0_pay8 p.1, k0_pay9 p.2)

/-- The positions the two gathers of trip `k` read: the ids `16 k` to `16 k + 15`'s first words and second words. -/
def Lanes (k : ℕ) (p : IVec S16 32 × IVec S16 32) : Prop :=
  ∀ j : S16.Idx, p.1 j = BitVec.ofNat 32 (2 * (j 0).val + 32 * k) ∧ p.2 j = BitVec.ofNat 32 (2 * (j 0).val + 32 * k + 1)

/-- The word that lane `l` increments on trip `k`, as the kernel computes it. -/
def addrW (x : ℕ → BitVec 32) (k l : ℕ) : BitVec 32 :=
  BitVec.ofNat 32 l * 64#32 + (x (2 * l + 32 * k)) <<< 3 + x (2 * l + 32 * k + 1)

/-- The address a lane computes is the word it is to increment. -/
theorem addrW_toNat {x : ℕ → BitVec 32} (hx : Digits x) (k : ℕ) {l : ℕ} (hl : l < 16) : (addrW x k l).toNat = addr x k l := by
  have h0 := hx (2 * l + 32 * k); have h1 := hx (2 * l + 32 * k + 1)
  unfold addrW addr idn
  rw [show 2 * (16 * k + l) = 2 * l + 32 * k by omega]
  simp only [BitVec.toNat_add, BitVec.toNat_mul, BitVec.toNat_shiftLeft, BitVec.toNat_ofNat, Nat.shiftLeft_eq]
  omega

/-- The word a lane increments lies in the histogram. -/
theorem addr_lt {x : ℕ → BitVec 32} (hx : Digits x) (k : ℕ) {l : ℕ} (hl : l < 16) : addr x k l < 1024 := by
  have := idn_lt hx (16 * k + l)
  unfold addr; omega

/-- The counting loop: the histogram of the row's 4096 ids, lane by lane. -/
theorem wp_count {B : Memref sig .scVector .vmem S8192 .i32} {H : Memref sig .scVector .vmem S1024 .i32} {v5 v6 : IVec S16 32}
    (hv5 : ∀ j, v5 j = BitVec.ofNat 32 (j 0).val * 64#32) (hv6 : ∀ j, v6 j = 1#32) {x : ℕ → BitVec 32} (hx : Digits x)
    {body : Fin k0_t3_loop.trips → IVec S16 32 × IVec S16 32 → TProg F i (IVec S16 32 × IVec S16 32)}
    (hb : ∀ k p, body k p = gatherBody i B H v5 v6 p) {init : IVec S16 32 × IVec S16 32} (hi : Lanes 0 init)
    {α : Type} {kk : IVec S16 32 × IVec S16 32 → TProg F i α} {Q : α → sProp 𝕄} :
    iprop(Own d i B x ∗ UpTo d i H (fun _ => 0) 1024) ⊢
      iprop((∀ p, Own d i B x ∗ UpTo d i H (histN x 256) 1024 -∗ wpT d i (kk p) Q)
      -∗ wpT d i (Scf.Loop.for k0_t3_loop k0_t3_ok init body >>= kk) Q) := by
  iintro ⟨HB, HH⟩ Hk
  iapply (Scf.wp_for_bind frame (wpE (defs₀ (F := F)) Variants.none (thr d i) none) Set.univ _ _ _ k0_t3_ok init body
    (fun k p => iprop(⌜Lanes k p⌝ ∗ Own d i B x ∗ UpTo d i H (histN x k) 1024)) (fun k p => by
      have hk : k.val < 256 := lt_of_lt_of_le k.isLt (show k0_t3_loop.trips ≤ 256 by decide)
      rw [hb]
      unfold UpTo
      iintro ⟨%hp, HB, %g, %hg, HH⟩
      have hp1 : ∀ j : S16.Idx, (p.1 j).toNat = 2 * (j 0).val + 32 * k.val := fun j => by
        have hj : (j 0).val < 16 := (j 0).isLt
        rw [(hp j).1, BitVec.toNat_ofNat]; omega
      have hp2 : ∀ j : S16.Idx, (p.2 j).toNat = 2 * (j 0).val + 32 * k.val + 1 := fun j => by
        have hj : (j 0).val < 16 := (j 0).isLt
        rw [(hp j).2, BitVec.toNat_ofNat]; omega
      have hc1 : k0_chk1 p.1 := fun a j => by
        obtain rfl : a = 0 := Subsingleton.elim _ _
        have hj : (j 0).val < 16 := (j 0).isLt
        show (p.1 j).toNat < 8192
        rw [hp1]; omega
      have hc2 : k0_chk2 p.2 := fun a j => by
        obtain rfl : a = 0 := Subsingleton.elim _ _
        have hj : (j 0).val < 16 := (j 0).isLt
        show (p.2 j).toNat < 8192
        rw [hp2]; omega
      unfold gatherBody
      iapply (wp_assume Variants.none (thr d i) none Set.univ hc2)
      iapply (wp_assume Variants.none (thr d i) none Set.univ hc1)
      iapply (wp_gather d i (p := p.1) (h := k0_idx1_inb p.1 hc1) (hl := View.loads_vmem h_S8192)) $$ HB
      iintro HB
      iapply (wp_gather d i (p := p.2) (h := k0_idx2_inb p.2 hc2) (hl := View.loads_vmem h_S8192)) $$ HB
      iintro HB
      have hw : ∀ j : S16.Idx, k0_pay7 (F := F) v5 (fun j => x (p.1 j).toNat) (fun j => x (p.2 j).toNat) j = addrW x k.val (j 0).val := fun j => by
        show v5 j + (x (p.1 j).toNat) <<< (3#32 : BitVec 32) + x (p.2 j).toNat = _
        rw [hv5, hp1, hp2]; rfl
      iapply (wp_assume Variants.none (thr d i) none Set.univ (show k0_chk3 _ from fun a j => by
        obtain rfl : a = 0 := Subsingleton.elim _ _
        have hj : (j 0).val < 16 := (j 0).isLt
        refine lt_of_eq_of_lt (congrArg BitVec.toNat (hw j)) ?_
        rw [addrW_toNat hx _ hj]
        exact addr_lt hx _ hj))
      iapply (wp_scatter d i (addrW x k.val) (fun _ => 1) hw hv6) $$ HH
      iintro HH
      iapply (wpT_ret d i)
      isplitr
      · ipureintro
        intro j
        have hj : (j 0).val < 16 := (j 0).isLt
        refine ⟨?_, ?_⟩
        · show p.1 j + 32#32 = _
          rw [(hp j).1, show (32#32 : BitVec 32) = BitVec.ofNat 32 32 from rfl, ← BitVec.ofNat_add]; exact congrArg _ (by omega)
        · show p.2 j + 32#32 = _
          rw [(hp j).2, show (32#32 : BitVec 32) = BitVec.ofNat 32 32 from rfl, ← BitVec.ofNat_add]; exact congrArg _ (by omega)
      isplitl [HB]; · iexact HB
      iexists _; isplitr; swap; · iexact HH
      ipureintro
      intro n hn
      show g n + _ = _
      rw [hg n hn, histN_succ]
      refine congrArg _ (Finset.sum_congr rfl fun l hl => ?_)
      rw [addrW_toNat hx _ (Finset.mem_range.mp hl)])) $$ [HB HH]
  · isplitr; · ipureintro; exact hi
    isplitl [HB]; · iexact HB
    unfold UpTo
    icases HH with ⟨%g, %hg, HH⟩
    iexists g; isplitr
    · ipureintro; intro n hn; rw [hg n hn, histN_zero]
    iexact HH
  iintro %p ⟨%hp, HB, HH⟩
  iapply Hk
  isplitl [HB]; · iexact HB
  iexact HH

/-- One trip of the summing loop: 16 words from each of the 16 lanes, added up and stored at their place. -/
def sumBody (H : Memref sig .scVector .vmem S1024 .i32) (A : Memref sig .scVector .vmem S16384 .i32) (o : Fin 16 → Fin 1 → ℕ)
    (ho : ∀ l a, o l a + S16.size a ≤ S1024.size a) (oA : Fin 1 → ℕ) (hoA : ∀ a, oA a + S16.size a ≤ S16384.size a) :
    TProg F i (BitVec 32) := do
  let x0 : Vec F S16 .i32 ← Prog.lift (.load H (Rect.unit (s := S1024) (o 0) S16.size (ho 0)).toLoadRect (View.loadsAt_vmem h_S16))
  let x1 : Vec F S16 .i32 ← Prog.lift (.load H (Rect.unit (s := S1024) (o 1) S16.size (ho 1)).toLoadRect (View.loadsAt_vmem h_S16))
  let x2 : Vec F S16 .i32 ← Prog.lift (.load H (Rect.unit (s := S1024) (o 2) S16.size (ho 2)).toLoadRect (View.loadsAt_vmem h_S16))
  let x3 : Vec F S16 .i32 ← Prog.lift (.load H (Rect.unit (s := S1024) (o 3) S16.size (ho 3)).toLoadRect (View.loadsAt_vmem h_S16))
  let x4 : Vec F S16 .i32 ← Prog.lift (.load H (Rect.unit (s := S1024) (o 4) S16.size (ho 4)).toLoadRect (View.loadsAt_vmem h_S16))
  let x5 : Vec F S16 .i32 ← Prog.lift (.load H (Rect.unit (s := S1024) (o 5) S16.size (ho 5)).toLoadRect (View.loadsAt_vmem h_S16))
  let x6 : Vec F S16 .i32 ← Prog.lift (.load H (Rect.unit (s := S1024) (o 6) S16.size (ho 6)).toLoadRect (View.loadsAt_vmem h_S16))
  let x7 : Vec F S16 .i32 ← Prog.lift (.load H (Rect.unit (s := S1024) (o 7) S16.size (ho 7)).toLoadRect (View.loadsAt_vmem h_S16))
  let x8 : Vec F S16 .i32 ← Prog.lift (.load H (Rect.unit (s := S1024) (o 8) S16.size (ho 8)).toLoadRect (View.loadsAt_vmem h_S16))
  let x9 : Vec F S16 .i32 ← Prog.lift (.load H (Rect.unit (s := S1024) (o 9) S16.size (ho 9)).toLoadRect (View.loadsAt_vmem h_S16))
  let x10 : Vec F S16 .i32 ← Prog.lift (.load H (Rect.unit (s := S1024) (o 10) S16.size (ho 10)).toLoadRect (View.loadsAt_vmem h_S16))
  let x11 : Vec F S16 .i32 ← Prog.lift (.load H (Rect.unit (s := S1024) (o 11) S16.size (ho 11)).toLoadRect (View.loadsAt_vmem h_S16))
  let x12 : Vec F S16 .i32 ← Prog.lift (.load H (Rect.unit (s := S1024) (o 12) S16.size (ho 12)).toLoadRect (View.loadsAt_vmem h_S16))
  let x13 : Vec F S16 .i32 ← Prog.lift (.load H (Rect.unit (s := S1024) (o 13) S16.size (ho 13)).toLoadRect (View.loadsAt_vmem h_S16))
  let x14 : Vec F S16 .i32 ← Prog.lift (.load H (Rect.unit (s := S1024) (o 14) S16.size (ho 14)).toLoadRect (View.loadsAt_vmem h_S16))
  let x15 : Vec F S16 .i32 ← Prog.lift (.load H (Rect.unit (s := S1024) (o 15) S16.size (ho 15)).toLoadRect (View.loadsAt_vmem h_S16))
  let _w : Vec F S16 .i32 ← Prog.lift (.load A (Rect.unit (s := S16384) oA S16.size hoA).toLoadRect (View.loadsAt_vmem h_S16))
  Prog.lift (.store A (Rect.unit (s := S16384) oA S16.size hoA) (k0_pay10 (F := F) (k0_pay1 x0 x1 x2 x3 x4 x5 x6 x7) x8 x9 x10 x11 x12 x13 x14 x15)
    Finset.univ (View.stores_vmem_bits_univ h_S16 rfl) (.inl rfl))
  pure 0#32

/-- The sixteen words' sum, lane by lane. -/
theorem sum16 (f : ℕ → IVec S16 32) (j : S16.Idx) :
    k0_pay10 (F := F) (k0_pay1 (F := F) (f 0) (f 1) (f 2) (f 3) (f 4) (f 5) (f 6) (f 7)) (f 8) (f 9) (f 10) (f 11) (f 12) (f 13) (f 14) (f 15) j
      = ∑ l ∈ Finset.range 16, f l j := by
  simp only [Finset.sum_range_succ, Finset.sum_range_zero, zero_add]
  rfl

set_option maxHeartbeats 2000000 in
/-- The summing loop: 64 more counts in place. -/
theorem wp_sum {H : Memref sig .scVector .vmem S1024 .i32} {A : Memref sig .scVector .vmem S16384 .i32} {x T : ℕ → BitVec 32} (hx : Digits x)
    {l : Scf.Loop 32} (e : l = k0_t4_loop) {ok : l.OK}
    (N : ℕ) (hT : ∀ v < 64, T (N + v) = cnt x v) {body : Fin l.trips → BitVec 32 → TProg F i (BitVec 32)}
    (off : Fin l.trips → Fin 16 → Fin 1 → ℕ) (inb : ∀ k l a, off k l a + S16.size a ≤ S1024.size a)
    (offA : Fin l.trips → Fin 1 → ℕ) (inbA : ∀ k a, offA k a + S16.size a ≤ S16384.size a)
    (hoff : ∀ k (m : Fin 16), off k m = ![64 * m.val + 16 * k.val]) (hoffA : ∀ k, offA k = ![N + 16 * k.val])
    (hb : ∀ k acc, body k acc = sumBody i H A (off k) (inb k) (offA k) (inbA k)) {init : BitVec 32}
    {α : Type} {kk : BitVec 32 → TProg F i α} {Q : α → sProp 𝕄} :
    iprop(UpTo d i H (histN x 256) 1024 ∗ UpTo d i A T N) ⊢
      iprop((∀ acc, (∃ g, Own d i H g) ∗ UpTo d i A T (N + 64) -∗ wpT d i (kk acc) Q)
      -∗ wpT d i (Scf.Loop.for l ok init body >>= kk) Q) := by
  subst e
  iintro ⟨HH, HA⟩ Hk
  iapply (Scf.wp_for_bind frame (wpE (defs₀ (F := F)) Variants.none (thr d i) none) Set.univ _ _ _ k0_t4_ok init body
    (fun k _ => iprop(UpTo d i H (histN x 256) 1024 ∗ UpTo d i A T (N + 16 * k))) (fun k acc => by
      have hk : k.val < 4 := lt_of_lt_of_le k.isLt (show k0_t4_loop.trips ≤ 4 by decide)
      rw [hb]
      iintro ⟨HH, HA⟩
      unfold UpTo
      icases HH with ⟨%g, %hg, HH⟩
      unfold sumBody
      iapply (wp_ld d i (64 * 0 + 16 * k.val) (hoff k 0)) $$ HH
      iintro HH
      iapply (wp_ld d i (64 * 1 + 16 * k.val) (hoff k 1)) $$ HH
      iintro HH
      iapply (wp_ld d i (64 * 2 + 16 * k.val) (hoff k 2)) $$ HH
      iintro HH
      iapply (wp_ld d i (64 * 3 + 16 * k.val) (hoff k 3)) $$ HH
      iintro HH
      iapply (wp_ld d i (64 * 4 + 16 * k.val) (hoff k 4)) $$ HH
      iintro HH
      iapply (wp_ld d i (64 * 5 + 16 * k.val) (hoff k 5)) $$ HH
      iintro HH
      iapply (wp_ld d i (64 * 6 + 16 * k.val) (hoff k 6)) $$ HH
      iintro HH
      iapply (wp_ld d i (64 * 7 + 16 * k.val) (hoff k 7)) $$ HH
      iintro HH
      iapply (wp_ld d i (64 * 8 + 16 * k.val) (hoff k 8)) $$ HH
      iintro HH
      iapply (wp_ld d i (64 * 9 + 16 * k.val) (hoff k 9)) $$ HH
      iintro HH
      iapply (wp_ld d i (64 * 10 + 16 * k.val) (hoff k 10)) $$ HH
      iintro HH
      iapply (wp_ld d i (64 * 11 + 16 * k.val) (hoff k 11)) $$ HH
      iintro HH
      iapply (wp_ld d i (64 * 12 + 16 * k.val) (hoff k 12)) $$ HH
      iintro HH
      iapply (wp_ld d i (64 * 13 + 16 * k.val) (hoff k 13)) $$ HH
      iintro HH
      iapply (wp_ld d i (64 * 14 + 16 * k.val) (hoff k 14)) $$ HH
      iintro HH
      iapply (wp_ld d i (64 * 15 + 16 * k.val) (hoff k 15)) $$ HH
      iintro HH
      iapply (wp_next d i (T := T) (N + 16 * k.val) (hoffA k) (fun j => by
        have hj : (j 0).val < 16 := (j 0).isLt
        rw [show N + 16 * k.val + (j 0).val = N + (16 * k.val + (j 0).val) by omega, hT _ (by omega), ← sum_lanes hx (by omega)]
        refine Eq.trans ?_ (Finset.sum_congr rfl fun l hl => (hg (64 * l + (16 * k.val + (j 0).val)) (by
          have := Finset.mem_range.mp hl; omega)))
        exact (sum16 (fun l j => g (64 * l + 16 * k.val + (j 0).val)) j).trans (Finset.sum_congr rfl fun l _ => by rw [Nat.add_assoc]))) $$ [HA]
      · unfold UpTo; iexact HA
      iintro HA
      iapply (wpT_ret d i)
      isplitl [HH]
      · iexists g; isplitr; · ipureintro; exact hg
        iexact HH
      unfold UpTo
      iexact HA)) $$ [HH HA]
  · isplitl [HH] <;> iassumption
  iintro %acc ⟨HH, HA⟩
  iapply Hk
  isplitl [HH]
  · unfold UpTo
    icases HH with ⟨%g, %hg, HH⟩
    iexists g; iexact HH
  iexact HA

end Cert.Proof.Hist
end
-- ==== Proof.Rows.lean ====
/-
  The four rows of a trip run the same three loops: each printed loop body is the one body, at the row's own buffer and
  offsets.
-/
module

public import proofs.«01_k».proof.Proof.Loops

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

variable (i : grid0.Coords) (arg2 : Memref sig .scVector .hbm S4096x8192 .i32) (harg2 : arg2.IsWhole) (arg3 : Memref sig .scVector .hbm S32x16384 .i32)
  (harg3 : arg3.IsWhole) (arg4 : Memref sig .scVector .vmem S8192 .i32) (harg4 : arg4.IsWhole) (arg5 : Memref sig .scVector .vmem S8192 .i32)
  (harg5 : arg5.IsWhole) (arg6 : Memref sig .scVector .vmem S8192 .i32) (harg6 : arg6.IsWhole) (arg7 : Memref sig .scVector .vmem S8192 .i32)
  (harg7 : arg7.IsWhole) (arg8 : Memref sig .scVector .vmem S1024 .i32) (harg8 : arg8.IsWhole)
  (arg9 : Memref sig .scVector .vmem S16384 .i32) (harg9 : arg9.IsWhole) (arg10 arg11 arg12 arg13 r0 : DmaSems sig S_)
  (v2 : BitVec 32) (v3 : IVec S16 32) (q : Fin k0_t1_loop.trips) (c c' c'' : BitVec 32)

/-- The offsets of the sixteen lanes' loads: the first lane's, then the fifteen others'. -/
def laneOff (o : Fin 1 → ℕ) (o' : BitVec 32 → Fin 1 → ℕ) : Fin 16 → Fin 1 → ℕ :=
  Fin.cases o fun r : Fin 15 => o' (BitVec.ofNat 32 (64 + 64 * r.val))

/-- Every lane's sixteen words lie inside the histogram. -/
theorem laneOff_inb {o : Fin 1 → ℕ} {o' : BitVec 32 → Fin 1 → ℕ} (h : ∀ a, o a + S16.size a ≤ S1024.size a)
    (h' : ∀ r : Fin 15, ∀ a, o' (BitVec.ofNat 32 (64 + 64 * r.val)) a + S16.size a ≤ S1024.size a) (l : Fin 16) (a : Fin 1) :
    laneOff o o' l a + S16.size a ≤ S1024.size a := by
  revert l
  exact Fin.cases (h a) (fun r => h' r a)

/-- Where lane `l`'s sixteen words begin. -/
theorem laneOff_eq {o : Fin 1 → ℕ} {o' : BitVec 32 → Fin 1 → ℕ} {n : ℕ} (h : o = ![16 * n])
    (h' : ∀ r : Fin 15, o' (BitVec.ofNat 32 (64 + 64 * r.val)) = ![64 * r.val + 16 * n + 64]) (l : Fin 16) :
    laneOff o o' l = ![64 * l.val + 16 * n] := by
  revert l
  refine Fin.cases ?_ fun r => ?_
  · show o = _
    rw [h]; refine congrArg (fun m => ![m]) ?_; show _ = 64 * 0 + _; omega
  · show o' (BitVec.ofNat 32 (64 + 64 * r.val)) = _
    rw [h']; refine congrArg (fun m => ![m]) ?_; show _ = 64 * (r.val + 1) + _; omega

/-- The first row's clearing loop. -/
theorem zero_0 (t : Fin k0_t2_loop.trips) (acc : BitVec 32) :
    k0_t2_body (F := F) i arg2 harg2 arg3 harg3 arg4 harg4 arg5 harg5 arg6 harg6 arg7 harg7 arg8 harg8 arg9 harg9 arg10 arg11 arg12 arg13 r0 v2 v3 k0_pay28 k0_pay29 k0_pay30 c c' q t acc = zeroBody i arg8 k0_pay30 (k0_off4 t) (k0_off4_inb t) := rfl

/-- The first row's counting loop. -/
theorem count_0 (t : Fin k0_t3_loop.trips) (p : IVec S16 32 × IVec S16 32) :
    k0_t3_body (F := F) i arg2 harg2 arg3 harg3 arg4 harg4 arg5 harg5 arg6 harg6 arg7 harg7 arg8 harg8 arg9 harg9 arg10 arg11 arg12 arg13 r0 v2 v3 k0_pay28 k0_pay29 k0_pay30 c c' q t p = gatherBody i arg4 arg8 k0_pay28 k0_pay29 p := rfl

/-- The first row's summing loop. -/
theorem sum_0 (t : Fin k0_t4_loop.trips) (acc : BitVec 32) :
    k0_t4_body (F := F) i arg2 harg2 arg3 harg3 arg4 harg4 arg5 harg5 arg6 harg6 arg7 harg7 arg8 harg8 arg9 harg9 arg10 arg11 arg12 arg13 r0 v2 v3 k0_pay28 k0_pay29 k0_pay30 c c' q t acc = sumBody i arg8 arg9 (laneOff (k0_off5 t) (k0_off6 t))
      (laneOff_inb (k0_off5_inb t) (k0_off6_inb t)) (k0_off7 q t) (k0_off7_inb q t) := rfl

/-- The second row's clearing loop. -/
theorem zero_1 (t : Fin k0_t5_loop.trips) (acc : BitVec 32) :
    k0_t5_body (F := F) i arg2 harg2 arg3 harg3 arg4 harg4 arg5 harg5 arg6 harg6 arg7 harg7 arg8 harg8 arg9 harg9 arg10 arg11 arg12 arg13 r0 v2 v3 k0_pay28 k0_pay29 k0_pay30 q c c' t acc = zeroBody i arg8 k0_pay30 (k0_off10 t) (k0_off10_inb t) := rfl

/-- The second row's counting loop. -/
theorem count_1 (t : Fin k0_t6_loop.trips) (p : IVec S16 32 × IVec S16 32) :
    k0_t6_body (F := F) i arg2 harg2 arg3 harg3 arg4 harg4 arg5 harg5 arg6 harg6 arg7 harg7 arg8 harg8 arg9 harg9 arg10 arg11 arg12 arg13 r0 v2 v3 k0_pay28 k0_pay29 k0_pay30 q c c' t p = gatherBody i arg5 arg8 k0_pay28 k0_pay29 p := rfl

/-- The second row's summing loop. -/
theorem sum_1 (t : Fin k0_t7_loop.trips) (acc : BitVec 32) :
    k0_t7_body (F := F) i arg2 harg2 arg3 harg3 arg4 harg4 arg5 harg5 arg6 harg6 arg7 harg7 arg8 harg8 arg9 harg9 arg10 arg11 arg12 arg13 r0 v2 v3 k0_pay28 k0_pay29 k0_pay30 q c c' t acc = sumBody i arg8 arg9 (laneOff (k0_off11 t) (k0_off12 t))
      (laneOff_inb (k0_off11_inb t) (k0_off12_inb t)) (k0_off13 q t) (k0_off13_inb q t) := rfl

/-- The third row's clearing loop. -/
theorem zero_2 (t : Fin k0_t8_loop.trips) (acc : BitVec 32) :
    k0_t8_body (F := F) i arg2 harg2 arg3 harg3 arg4 harg4 arg5 harg5 arg6 harg6 arg7 harg7 arg8 harg8 arg9 harg9 arg10 arg11 arg12 arg13 r0 v2 v3 k0_pay28 k0_pay29 k0_pay30 q c c' c'' t acc = zeroBody i arg8 k0_pay30 (k0_off15 t) (k0_off15_inb t) := rfl

/-- The third row's counting loop. -/
theorem count_2 (t : Fin k0_t9_loop.trips) (p : IVec S16 32 × IVec S16 32) :
    k0_t9_body (F := F) i arg2 harg2 arg3 harg3 arg4 harg4 arg5 harg5 arg6 harg6 arg7 harg7 arg8 harg8 arg9 harg9 arg10 arg11 arg12 arg13 r0 v2 v3 k0_pay28 k0_pay29 k0_pay30 q c c' c'' t p = gatherBody i arg6 arg8 k0_pay28 k0_pay29 p := rfl

/-- The third row's summing loop. -/
theorem sum_2 (t : Fin k0_t10_loop.trips) (acc : BitVec 32) :
    k0_t10_body (F := F) i arg2 harg2 arg3 harg3 arg4 harg4 arg5 harg5 arg6 harg6 arg7 harg7 arg8 harg8 arg9 harg9 arg10 arg11 arg12 arg13 r0 v2 v3 k0_pay28 k0_pay29 k0_pay30 q c c' c'' t acc = sumBody i arg8 arg9 (laneOff (k0_off16 t) (k0_off17 t))
      (laneOff_inb (k0_off16_inb t) (k0_off17_inb t)) (k0_off18 q t) (k0_off18_inb q t) := rfl

/-- The fourth row's clearing loop. -/
theorem zero_3 (t : Fin k0_t11_loop.trips) (acc : BitVec 32) :
    k0_t11_body (F := F) i arg2 harg2 arg3 harg3 arg4 harg4 arg5 harg5 arg6 harg6 arg7 harg7 arg8 harg8 arg9 harg9 arg10 arg11 arg12 arg13 r0 v2 v3 k0_pay28 k0_pay29 k0_pay30 q c c' c'' t acc = zeroBody i arg8 k0_pay30 (k0_off20 t) (k0_off20_inb t) := rfl

/-- The fourth row's counting loop. -/
theorem count_3 (t : Fin k0_t12_loop.trips) (p : IVec S16 32 × IVec S16 32) :
    k0_t12_body (F := F) i arg2 harg2 arg3 harg3 arg4 harg4 arg5 harg5 arg6 harg6 arg7 harg7 arg8 harg8 arg9 harg9 arg10 arg11 arg12 arg13 r0 v2 v3 k0_pay28 k0_pay29 k0_pay30 q c c' c'' t p = gatherBody i arg7 arg8 k0_pay28 k0_pay29 p := rfl

/-- The fourth row's summing loop. -/
theorem sum_3 (t : Fin k0_t13_loop.trips) (acc : BitVec 32) :
    k0_t13_body (F := F) i arg2 harg2 arg3 harg3 arg4 harg4 arg5 harg5 arg6 harg6 arg7 harg7 arg8 harg8 arg9 harg9 arg10 arg11 arg12 arg13 r0 q c t acc = sumBody i arg8 arg9 (laneOff (k0_off21 t) (k0_off22 t))
      (laneOff_inb (k0_off21_inb t) (k0_off22_inb t)) (k0_off23 q t) (k0_off23_inb q t) := rfl

end Cert.Proof.Hist
end
-- ==== Proof.Row.lean ====
/-
  What a tile holds between two rows, and one row of a trip: the fetch of a later row started into the buffer last
  emptied, the row's own fetch waited for, the row counted.
-/
module

public import proofs.«01_k».proof.Proof.Rows

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

variable (d : Dev nD) (i : grid0.Coords) (X : S4096x8192.Idx → BitVec 32)

/-- The first of the tile's 128 rows. -/
def base : ℕ := 256 * (i 1).val + 128 * (i 0).val

/-- A tile's 128 rows are rows of the array. -/
theorem base_le : base i + 128 ≤ 4096 := by
  have h0 : (i 0).val < 2 := (i 0).isLt
  have h1 : (i 1).val < 16 := (i 1).isLt
  unfold base; omega

/-- What the tile's counts are to be: at `128 r + v`, how often `v` occurs in the tile's row `r`. -/
def target (n : ℕ) : BitVec 32 := cnt (rowN X (base i + n / 128)) (n % 128)

/-- Buffer `b` before the tile's row `r` is to be counted from it: the row on its way, or nothing when there is no such row. -/
def Fetch (b : Memref sig .scVector .vmem S8192 .i32) (sem : DmaSem sig) (s : PosShare TreeShare) (r : ℕ) : sProp 𝕄 :=
  if r < 128 then Pend d i X b sem s (base i + r) else Free d i X b sem s

/-- What the tile owes and has waited for: nothing owed, and every wait so far is at the index of a plain wait. -/
def Owing (O : CellTallies nD τ sig (HIx 1)) (W : Waits sig (HIx 1)) : sProp 𝕄 :=
  iprop(∃ W', ⌜∀ p ∈ W', p ∈ W ∨ p.2 = none⌝ ∗ owes (thr d i) O W')

/-- A program followed by another. -/
theorem wpT_bind {α β : Type} {p : TProg F i α} {k : α → TProg F i β} {R : α → sProp 𝕄} {Q : β → sProp 𝕄} {P : sProp 𝕄}
    (h : P ⊢ wpT d i p R) : P ⊢ iprop((∀ a, R a -∗ wpT d i (k a) Q) -∗ wpT d i (p >>= k) Q) := by
  unfold wpT at h ⊢
  rw [wp_bind]
  iintro HP Hk
  iapply (wp_wand_r frame (wpE (defs₀ (F := F)) Variants.none (thr d i) none) Set.univ)
  isplitl [HP]
  · iapply h; iexact HP
  iexact Hk

/-- A conditional step before the rest: taken, it turns `P` into `R`; skipped, `P` is `R` already. -/
theorem wp_cond {c : Prop} [Decidable c] {α : Type} {pt : c → TProg F i α} {pe : ¬ c → TProg F i α} {rest : TProg F i α}
    {P R : sProp 𝕄} {Q : α → sProp 𝕄} (hpe : ∀ h, pe h = rest) (he : ¬ c → P ⊢ R)
    (ht : ∀ h, P ⊢ iprop((R -∗ wpT d i rest Q) -∗ wpT d i (pt h) Q)) :
    P ⊢ iprop((R -∗ wpT d i rest Q) -∗ wpT d i (dite c pt pe) Q) := by
  by_cases h : c
  · rw [dif_pos h]; exact ht h
  · rw [dif_neg h, hpe]
    iintro HP Hk
    iapply Hk
    iapply (he h)
    iexact HP

/-- Starting the fetch of the tile's row `r`, when there is one. -/
theorem wp_start {b : Memref sig .scVector .vmem S8192 .i32} {sem : DmaSem sig} {s : PosShare TreeShare} {r : ℕ} {c : Prop} [Decidable c]
    (hc : c ↔ r < 128) {off : Fin 2 → ℕ} (ho : off = ![base i + r, 0]) {inb : c → ∀ a, off a + (![1, 8192] : Fin 2 → ℕ) a ≤ S4096x8192.size a}
    {h1 : ∀ h : c, (rowOf obsM off (inb h) squeezes_S1x8192_S8192).view.WordExact} {h2 h3} {α : Type} {rest : TProg F i α}
    {pe : ¬ c → TProg F i α} (hpe : ∀ h, pe h = rest) {Q : α → sProp 𝕄} :
    Free d i X b sem s ⊢ iprop((Fetch d i X b sem s r -∗ wpT d i rest Q)
      -∗ wpT d i (dite c (fun h => .op (.enqueueDma (rowOf obsM off (inb h) squeezes_S1x8192_S8192) (.here b) (.dma sem) (h1 h) h2 h3) fun _ => rest) pe) Q) := by
  refine wp_cond (F := F) d i hpe (fun h => ?_) (fun h => ?_)
  · unfold Fetch; rw [if_neg (fun hr => h (hc.mpr hr))]
  · have hr := hc.mp h
    unfold Fetch; rw [if_pos hr]
    exact wp_fetch (F := F) d i X (k := fun _ => rest) (by have := base_le i; omega) ho

/-- The kernel's three vectors: the lanes' bases, ones, zeros. -/
theorem pay28_eq (j : S16.Idx) : k0_pay28 j = BitVec.ofNat 32 (j 0).val * 64#32 := by
  show BitVec.ofNat 32 (0 * 16 + (j 0).val) * 64#32 = _
  rw [Nat.zero_mul, Nat.zero_add]
/-- The vector the loops add is all ones. -/
theorem pay29_eq (j : S16.Idx) : k0_pay29 j = 1#32 := rfl
/-- The vector the loops clear with is all zeros. -/
theorem pay30_eq (j : S16.Idx) : k0_pay30 j = 0 := rfl

variable {arg8 : Memref sig .scVector .vmem S1024 .i32}

/-- Waiting for the tile's row `r` and counting it: the histogram of its ids, and the buffer free again. -/
theorem wp_row {b : Memref sig .scVector .vmem S8192 .i32} {sem : DmaSem sig} {s : PosShare TreeShare} {r : ℕ} (hr : r < 128)
    {l2 l3 : Scf.Loop 32} (e2 : l2 = k0_t2_loop) (e3 : l3 = k0_t3_loop) {ok2 : l2.OK} {ok3 : l3.OK}
    (hX : ∀ n, Digits (rowN X n)) {O : CellTallies nD τ sig (HIx 1)} {W : Waits sig (HIx 1)}
    {src : Memref sig .scVector .hbm S8192 .i32} {h1 h2}
    {zb : Fin l2.trips → BitVec 32 → TProg F i (BitVec 32)} (off : Fin l2.trips → Fin 1 → ℕ)
    (inb : ∀ k a, off k a + S16.size a ≤ S1024.size a) (ho : ∀ k, off k = ![16 * k.val])
    (hz : ∀ k acc, zb k acc = zeroBody i arg8 k0_pay30 (off k) (inb k))
    {cb : Fin l3.trips → IVec S16 32 × IVec S16 32 → TProg F i (IVec S16 32 × IVec S16 32)}
    (hb : ∀ k p, cb k p = gatherBody i b arg8 k0_pay28 k0_pay29 p) {z : BitVec 32} {init : IVec S16 32 × IVec S16 32} (hi : Lanes 0 init)
    {α : Type} {kk : IVec S16 32 × IVec S16 32 → TProg F i α} {Q : α → sProp 𝕄} :
    iprop(Transfers.MayWaits (thr d i) (none : HIx 1) O ∗ Fetch d i X b sem s r ∗ (∃ g, Own d i arg8 g) ∗ Owing d i O W) ⊢
      iprop((∀ p, Free d i X b sem s ∗ UpTo d i arg8 (histN (rowN X (base i + r)) 256) 1024 ∗ Owing d i O W -∗ wpT d i (kk p) Q)
      -∗ wpT d i (.op (.waitDma2 sem src b h1 h2) fun _ => Scf.Loop.for l2 ok2 z zb >>= fun _ =>
          Scf.Loop.for l3 ok3 init cb >>= kk) Q) := by
  subst e2 e3
  unfold Owing
  unfold Fetch; rw [if_pos hr]
  iintro ⟨Hm, Hf, HH, %W', %hW', HO⟩ Hk
  iapply (wp_ready d i X) $$ [Hm Hf HO]
  · isplitl [Hf]; · iexact Hf
    isplitl [HO]; · iexact HO
    iexact Hm
  iintro ⟨HB, Hs, Hobs, HO⟩
  iapply (wp_zero d i pay30_eq off inb ho hz) $$ HH
  iintro %_ HH
  iapply (wp_count d i pay28_eq pay29_eq (hX _) hb hi) $$ [HB HH]
  · isplitl [HB] <;> iassumption
  iintro %p ⟨HB, HH⟩
  iapply Hk
  isplitl [HB Hs Hobs]
  · unfold Free
    isplitl [HB]; · iexists _; iexact HB
    isplitl [Hs] <;> iassumption
  isplitl [HH]; · iexact HH
  iexists _; isplitr; swap; · iexact HO
  ipureintro
  intro p hp
  rcases Finset.mem_insert.mp hp with rfl | hp
  · exact .inr rfl
  · exact hW' p hp

end Cert.Proof.Hist
end
-- ==== Proof.Trip.lean ====
/-
  One trip of the tile's main loop: four rows, one in each buffer. Each row's step starts the fetch of the row three
  further on into the buffer last emptied, waits for its own row, counts it, and writes its 128 counts.
-/
module

public import proofs.«01_k».proof.Proof.Row

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

variable (d : Dev nD) (i : grid0.Coords) (X : S4096x8192.Idx → BitVec 32)
  (arg4 : Memref sig .scVector .vmem S8192 .i32) (harg4 : arg4.IsWhole) (arg5 : Memref sig .scVector .vmem S8192 .i32)
  (harg5 : arg5.IsWhole) (arg6 : Memref sig .scVector .vmem S8192 .i32) (harg6 : arg6.IsWhole) (arg7 : Memref sig .scVector .vmem S8192 .i32)
  (harg7 : arg7.IsWhole) (arg8 : Memref sig .scVector .vmem S1024 .i32) (harg8 : arg8.IsWhole)
  (arg9 : Memref sig .scVector .vmem S16384 .i32) (harg9 : arg9.IsWhole) (arg10 arg11 arg12 arg13 r0 : DmaSems sig S_)
  (s : Fin 4 → PosShare TreeShare) (O : CellTallies nD τ sig (HIx 1)) (W : Waits sig (HIx 1))
  (harg2 : obsM.IsWhole) (harg3 : outM.IsWhole) (v2 : BitVec 32) (v3 : IVec S16 32)

/-- The tile's counts, a row's first 64: the ids'. -/
theorem target_ids {r v : ℕ} (hv : v < 64) (n : ℕ) (hn : n = 128 * r) : target i X (n + v) = cnt (rowN X (base i + r)) v := by
  subst hn
  unfold target
  rw [show (128 * r + v) / 128 = r by omega, show (128 * r + v) % 128 = v by omega]

/-- The tile's counts, a row's last 64: zero, since no id is 64 or more. -/
theorem target_rest (hX : ∀ n, Digits (rowN X n)) {N r : ℕ} (h : 128 * r + 64 ≤ N) (h' : N + 16 ≤ 128 * r + 128) (j : S16.Idx) :
    k0_pay30 j = target i X (N + (j 0).val) := by
  have hj : (j 0).val < 16 := (j 0).isLt
  unfold target
  rw [cnt_of_le (hX _) (by omega)]
  exact pay30_eq j

/-- A trip's rows are among the tile's 128. -/
theorem row_lt (q : Fin k0_t1_loop.trips) {b : ℕ} (hb : b < 4) : 4 * q.val + b < 128 := by
  have := q.isLt
  have h : k0_t1_loop.trips = 32 := by decide
  omega

/-- The conditions under which the four rows' steps fetch: that there is a row three further on. -/
theorem cond1_iff (q : Fin k0_t1_loop.trips) : k0_cond1 q = 1#1 ↔ 4 * q.val + 3 < 128 := by revert q; decide
/-- When the second row's prefetch is made. -/
theorem cond2_iff (q : Fin k0_t1_loop.trips) : k0_cond2 q = 1#1 ↔ 4 * q.val + 4 < 128 := by revert q; decide
/-- When the third row's prefetch is made. -/
theorem cond3_iff (q : Fin k0_t1_loop.trips) : k0_cond3 q = 1#1 ↔ 4 * q.val + 5 < 128 := by revert q; decide
/-- When the fourth row's prefetch is made. -/
theorem cond4_iff (q : Fin k0_t1_loop.trips) : k0_cond4 q = 1#1 ↔ 4 * q.val + 6 < 128 := by revert q; decide

/-- The lanes' first positions, however they are spelled. -/
theorem lanes_zero (hv : ∀ j : S16.Idx, v3 j = BitVec.ofNat 32 (j 0).val) : Lanes 0 (k0_pay5 v3, k0_pay6 v3) := by
  intro j
  have h : v3 j * 2#32 = BitVec.ofNat 32 (2 * (j 0).val + 32 * 0) := by
    rw [hv, show (2#32 : BitVec 32) = BitVec.ofNat 32 2 from rfl, ← BitVec.ofNat_mul]; exact congrArg _ (by omega)
  refine ⟨h, ?_⟩
  show v3 j * 2#32 + 1#32 = _
  rw [h, show (1#32 : BitVec 32) = BitVec.ofNat 32 1 from rfl, ← BitVec.ofNat_add]

/-- What holds before trip `q`: the next three rows on their way, the fourth buffer free, the counts of `4 q` rows in place. -/
def Trip (q : ℕ) : sProp 𝕄 :=
  iprop(Transfers.MayWaits (thr d i) (none : HIx 1) O
    ∗ (Fetch d i X arg4 arg10.sem (s 0) (4 * q) ∗ Fetch d i X arg5 arg11.sem (s 1) (4 * q + 1) ∗ Fetch d i X arg6 arg12.sem (s 2) (4 * q + 2) ∗ Free d i X arg7 arg13.sem (s 3))
    ∗ (∃ g, Own d i arg8 g) ∗ UpTo d i arg9 (target i X) (512 * q) ∗ Owing d i O W)

variable (hX : ∀ n, Digits (rowN X n)) (hv3 : ∀ j : S16.Idx, v3 j = BitVec.ofNat 32 (j 0).val) (q : Fin k0_t1_loop.trips)

include hX hv3 in
/-- The first part of a trip: the first row, and half of its zero counts. -/
theorem wp_part5  :
    Trip d i X arg4 arg5 arg6 arg7 arg8 arg9 arg10 arg11 arg12 arg13 s O W q.val
    ⊢ wpT (F := F) d i (k0_part5 i obsM harg2 outM harg3 arg4 harg4 arg5 harg5 arg6 harg6 arg7 harg7 arg8 harg8 arg9 harg9 arg10 arg11 arg12 arg13 r0 v2 v3 k0_pay28 k0_pay29 k0_pay30 0#32 1#32 q) (fun _ => iprop(Transfers.MayWaits (thr d i) (none : HIx 1) O
    ∗ (Free d i X arg4 arg10.sem (s 0) ∗ Fetch d i X arg5 arg11.sem (s 1) (4 * q.val + 1) ∗ Fetch d i X arg6 arg12.sem (s 2) (4 * q.val + 2) ∗ Fetch d i X arg7 arg13.sem (s 3) (4 * q.val + 3))
    ∗ (∃ g, Own d i arg8 g) ∗ UpTo d i arg9 (target i X) (512 * q.val + 96) ∗ Owing d i O W)) := by
  rw [k0_part5_eq_skeleton]
  unfold k0_part5_skel
  dsimp only
  unfold Trip
  iintro ⟨#Hm, ⟨H0, H1, H2, H3⟩, HH, HA, HO⟩
  iapply (wp_start d i X (b := arg7) (sem := arg13.sem) (s := s 3) (r := 4 * q.val + 3) (cond1_iff q) ((k0_off2_eq i q).trans (congrArg (fun m => ![m, 0]) (by unfold base; omega))) (fun _ => rfl)) $$ H3
  iintro H3
  iapply (wp_row d i X (arg8 := arg8) (b := arg4) (sem := arg10.sem) (O := O) (W := W) (s := s 0) (r := 4 * q.val + 0) (row_lt q (by decide)) rfl rfl hX (k0_off4 ·) (k0_off4_inb ·) (k0_off4_eq ·)
    (zero_0 (F := F) i obsM harg2 outM harg3 arg4 harg4 arg5 harg5 arg6 harg6 arg7 harg7 arg8 harg8 arg9 harg9 arg10 arg11 arg12 arg13 r0 v2 v3 q 0#32 1#32) (count_0 (F := F) i obsM harg2 outM harg3 arg4 harg4 arg5 harg5 arg6 harg6 arg7 harg7 arg8 harg8 arg9 harg9 arg10 arg11 arg12 arg13 r0 v2 v3 q 0#32 1#32) (show Lanes 0 (k0_pay5 v3, k0_pay6 v3) from lanes_zero v3 hv3)) $$ [H0 HH HO]
  · isplitr; · iexact Hm
    isplitl [H0]; · iexact H0
    isplitl [HH] <;> iassumption
  iintro %p ⟨H0, HH, HO⟩
  iapply (wp_sum d i (H := arg8) (A := arg9) (hX (base i + (4 * q.val + 0))) rfl (512 * q.val + 0) (fun v hv => target_ids i X hv _ (by omega)) _ _ _ _
    (fun t => laneOff_eq (k0_off5_eq t) (k0_off6_eq t)) (fun t => k0_off7_eq q t) (sum_0 (F := F) i obsM harg2 outM harg3 arg4 harg4 arg5 harg5 arg6 harg6 arg7 harg7 arg8 harg8 arg9 harg9 arg10 arg11 arg12 arg13 r0 v2 v3 q 0#32 1#32)) $$ [HH HA]
  · isplitl [HH] <;> iassumption
  iintro %_ ⟨HH, HA⟩
  iapply (wp_next d i (A := arg9) (T := target i X) (512 * q.val + 64) ((k0_off8_eq q 0 0).trans (congrArg (fun m => ![m]) (by show 512 * q.val + 128 * 0 + 16 * 0 + 64 = _; omega)))
    (target_rest i X hX (r := 4 * q.val + 0) (by omega) (by omega))) $$ HA
  iintro HA
  iapply (wp_next d i (A := arg9) (T := target i X) (512 * q.val + 80) ((k0_off8_eq q 0 1).trans (congrArg (fun m => ![m]) (by show 512 * q.val + 128 * 0 + 16 * 1 + 64 = _; omega)))
    (target_rest i X hX (r := 4 * q.val + 0) (by omega) (by omega))) $$ HA
  iintro HA
  iapply (wpT_ret d i)
  isplitr; · iexact Hm
  isplitl [H0 H1 H2 H3]
  · isplitl [H0]; · iexact H0
    isplitl [H1]; · iexact H1
    isplitl [H2] <;> iassumption
  isplitl [HH]; · iexact HH
  isplitl [HA] <;> iassumption

include hX hv3 in
/-- The second part: the rest of them, the second row, and a quarter of its zero counts. -/
theorem wp_part6 (c c' : BitVec 32) :
    iprop(Transfers.MayWaits (thr d i) (none : HIx 1) O
    ∗ (Free d i X arg4 arg10.sem (s 0) ∗ Fetch d i X arg5 arg11.sem (s 1) (4 * q.val + 1) ∗ Fetch d i X arg6 arg12.sem (s 2) (4 * q.val + 2) ∗ Fetch d i X arg7 arg13.sem (s 3) (4 * q.val + 3))
    ∗ (∃ g, Own d i arg8 g) ∗ UpTo d i arg9 (target i X) (512 * q.val + 96) ∗ Owing d i O W)
    ⊢ wpT (F := F) d i (k0_part6 i obsM harg2 outM harg3 arg4 harg4 arg5 harg5 arg6 harg6 arg7 harg7 arg8 harg8 arg9 harg9 arg10 arg11 arg12 arg13 r0 v2 v3 k0_pay28 k0_pay29 k0_pay30 q c c') (fun _ => iprop(Transfers.MayWaits (thr d i) (none : HIx 1) O
    ∗ (Fetch d i X arg4 arg10.sem (s 0) (4 * q.val + 4) ∗ Free d i X arg5 arg11.sem (s 1) ∗ Fetch d i X arg6 arg12.sem (s 2) (4 * q.val + 2) ∗ Fetch d i X arg7 arg13.sem (s 3) (4 * q.val + 3))
    ∗ (∃ g, Own d i arg8 g) ∗ UpTo d i arg9 (target i X) (512 * q.val + 208) ∗ Owing d i O W)) := by
  rw [k0_part6_eq_skeleton]
  unfold k0_part6_skel
  dsimp only
  iintro ⟨#Hm, ⟨H0, H1, H2, H3⟩, HH, HA, HO⟩
  iapply (wp_next d i (A := arg9) (T := target i X) (512 * q.val + 96) ((k0_off8_eq q 0 2).trans (congrArg (fun m => ![m]) (by show 512 * q.val + 128 * 0 + 16 * 2 + 64 = _; omega)))
    (target_rest i X hX (r := 4 * q.val + 0) (by omega) (by omega))) $$ HA
  iintro HA
  iapply (wp_next d i (A := arg9) (T := target i X) (512 * q.val + 112) ((k0_off8_eq q 0 3).trans (congrArg (fun m => ![m]) (by show 512 * q.val + 128 * 0 + 16 * 3 + 64 = _; omega)))
    (target_rest i X hX (r := 4 * q.val + 0) (by omega) (by omega))) $$ HA
  iintro HA
  iapply (wp_start d i X (b := arg4) (sem := arg10.sem) (s := s 0) (r := 4 * q.val + 4) (cond2_iff q) ((k0_off9_eq i q).trans (congrArg (fun m => ![m, 0]) (by unfold base; omega))) (fun _ => rfl)) $$ H0
  iintro H0
  iapply (wp_row d i X (arg8 := arg8) (b := arg5) (sem := arg11.sem) (O := O) (W := W) (s := s 1) (r := 4 * q.val + 1) (row_lt q (by decide)) rfl rfl hX (k0_off10 ·) (k0_off10_inb ·) (k0_off10_eq ·)
    (zero_1 (F := F) i obsM harg2 outM harg3 arg4 harg4 arg5 harg5 arg6 harg6 arg7 harg7 arg8 harg8 arg9 harg9 arg10 arg11 arg12 arg13 r0 v2 v3 q c c') (count_1 (F := F) i obsM harg2 outM harg3 arg4 harg4 arg5 harg5 arg6 harg6 arg7 harg7 arg8 harg8 arg9 harg9 arg10 arg11 arg12 arg13 r0 v2 v3 q c c') (show Lanes 0 (k0_pay11 v3, k0_pay12 v3) from lanes_zero v3 hv3)) $$ [H1 HH HO]
  · isplitr; · iexact Hm
    isplitl [H1]; · iexact H1
    isplitl [HH] <;> iassumption
  iintro %p ⟨H1, HH, HO⟩
  iapply (wp_sum d i (H := arg8) (A := arg9) (hX (base i + (4 * q.val + 1))) rfl (512 * q.val + 128) (fun v hv => target_ids i X hv _ (by omega)) _ _ _ _
    (fun t => laneOff_eq (k0_off11_eq t) (k0_off12_eq t)) (fun t => (k0_off13_eq q t).trans (congrArg (fun m => ![m]) (by omega))) (sum_1 (F := F) i obsM harg2 outM harg3 arg4 harg4 arg5 harg5 arg6 harg6 arg7 harg7 arg8 harg8 arg9 harg9 arg10 arg11 arg12 arg13 r0 v2 v3 q c c')) $$ [HH HA]
  · isplitl [HH] <;> iassumption
  iintro %_ ⟨HH, HA⟩
  iapply (wp_next d i (A := arg9) (T := target i X) (512 * q.val + 192) ((k0_off8_eq q 1 0).trans (congrArg (fun m => ![m]) (by show 512 * q.val + 128 * 1 + 16 * 0 + 64 = _; omega)))
    (target_rest i X hX (r := 4 * q.val + 1) (by omega) (by omega))) $$ HA
  iintro HA
  iapply (wpT_ret d i)
  isplitr; · iexact Hm
  isplitl [H0 H1 H2 H3]
  · isplitl [H0]; · iexact H0
    isplitl [H1]; · iexact H1
    isplitl [H2] <;> iassumption
  isplitl [HH]; · iexact HH
  isplitl [HA] <;> iassumption

include hX hv3 in
/-- The third part: the rest of them, and the third row. -/
theorem wp_part7 (c c' c'' : BitVec 32) :
    iprop(Transfers.MayWaits (thr d i) (none : HIx 1) O
    ∗ (Fetch d i X arg4 arg10.sem (s 0) (4 * q.val + 4) ∗ Free d i X arg5 arg11.sem (s 1) ∗ Fetch d i X arg6 arg12.sem (s 2) (4 * q.val + 2) ∗ Fetch d i X arg7 arg13.sem (s 3) (4 * q.val + 3))
    ∗ (∃ g, Own d i arg8 g) ∗ UpTo d i arg9 (target i X) (512 * q.val + 208) ∗ Owing d i O W)
    ⊢ wpT (F := F) d i (k0_part7 i obsM harg2 outM harg3 arg4 harg4 arg5 harg5 arg6 harg6 arg7 harg7 arg8 harg8 arg9 harg9 arg10 arg11 arg12 arg13 r0 v2 v3 k0_pay28 k0_pay29 k0_pay30 q c c' c'') (fun _ => iprop(Transfers.MayWaits (thr d i) (none : HIx 1) O
    ∗ (Fetch d i X arg4 arg10.sem (s 0) (4 * q.val + 4) ∗ Fetch d i X arg5 arg11.sem (s 1) (4 * q.val + 5) ∗ Free d i X arg6 arg12.sem (s 2) ∗ Fetch d i X arg7 arg13.sem (s 3) (4 * q.val + 3))
    ∗ (∃ g, Own d i arg8 g) ∗ UpTo d i arg9 (target i X) (512 * q.val + 320) ∗ Owing d i O W)) := by
  rw [k0_part7_eq_skeleton]
  unfold k0_part7_skel
  dsimp only
  iintro ⟨#Hm, ⟨H0, H1, H2, H3⟩, HH, HA, HO⟩
  iapply (wp_next d i (A := arg9) (T := target i X) (512 * q.val + 208) ((k0_off8_eq q 1 1).trans (congrArg (fun m => ![m]) (by show 512 * q.val + 128 * 1 + 16 * 1 + 64 = _; omega)))
    (target_rest i X hX (r := 4 * q.val + 1) (by omega) (by omega))) $$ HA
  iintro HA
  iapply (wp_next d i (A := arg9) (T := target i X) (512 * q.val + 224) ((k0_off8_eq q 1 2).trans (congrArg (fun m => ![m]) (by show 512 * q.val + 128 * 1 + 16 * 2 + 64 = _; omega)))
    (target_rest i X hX (r := 4 * q.val + 1) (by omega) (by omega))) $$ HA
  iintro HA
  iapply (wp_next d i (A := arg9) (T := target i X) (512 * q.val + 240) ((k0_off8_eq q 1 3).trans (congrArg (fun m => ![m]) (by show 512 * q.val + 128 * 1 + 16 * 3 + 64 = _; omega)))
    (target_rest i X hX (r := 4 * q.val + 1) (by omega) (by omega))) $$ HA
  iintro HA
  iapply (wp_start d i X (b := arg5) (sem := arg11.sem) (s := s 1) (r := 4 * q.val + 5) (cond3_iff q) ((k0_off14_eq i q).trans (congrArg (fun m => ![m, 0]) (by unfold base; omega))) (fun _ => rfl)) $$ H1
  iintro H1
  iapply (wp_row d i X (arg8 := arg8) (b := arg6) (sem := arg12.sem) (O := O) (W := W) (s := s 2) (r := 4 * q.val + 2) (row_lt q (by decide)) rfl rfl hX (k0_off15 ·) (k0_off15_inb ·) (k0_off15_eq ·)
    (zero_2 (F := F) i obsM harg2 outM harg3 arg4 harg4 arg5 harg5 arg6 harg6 arg7 harg7 arg8 harg8 arg9 harg9 arg10 arg11 arg12 arg13 r0 v2 v3 q c c' c'') (count_2 (F := F) i obsM harg2 outM harg3 arg4 harg4 arg5 harg5 arg6 harg6 arg7 harg7 arg8 harg8 arg9 harg9 arg10 arg11 arg12 arg13 r0 v2 v3 q c c' c'') (show Lanes 0 (k0_pay17 v3, k0_pay18 v3) from lanes_zero v3 hv3)) $$ [H2 HH HO]
  · isplitr; · iexact Hm
    isplitl [H2]; · iexact H2
    isplitl [HH] <;> iassumption
  iintro %p ⟨H2, HH, HO⟩
  iapply (wp_sum d i (H := arg8) (A := arg9) (hX (base i + (4 * q.val + 2))) rfl (512 * q.val + 256) (fun v hv => target_ids i X hv _ (by omega)) _ _ _ _
    (fun t => laneOff_eq (k0_off16_eq t) (k0_off17_eq t)) (fun t => (k0_off18_eq q t).trans (congrArg (fun m => ![m]) (by omega))) (sum_2 (F := F) i obsM harg2 outM harg3 arg4 harg4 arg5 harg5 arg6 harg6 arg7 harg7 arg8 harg8 arg9 harg9 arg10 arg11 arg12 arg13 r0 v2 v3 q c c' c'')) $$ [HH HA]
  · isplitl [HH] <;> iassumption
  iintro %_ ⟨HH, HA⟩
  iapply (wpT_ret d i)
  isplitr; · iexact Hm
  isplitl [H0 H1 H2 H3]
  · isplitl [H0]; · iexact H0
    isplitl [H1]; · iexact H1
    isplitl [H2] <;> iassumption
  isplitl [HH]; · iexact HH
  isplitl [HA] <;> iassumption

include hX hv3 in
/-- The fourth part: the third row's zero counts, and the fourth row's histogram. -/
theorem wp_part8 (c c' c'' : BitVec 32) :
    iprop(Transfers.MayWaits (thr d i) (none : HIx 1) O
    ∗ (Fetch d i X arg4 arg10.sem (s 0) (4 * q.val + 4) ∗ Fetch d i X arg5 arg11.sem (s 1) (4 * q.val + 5) ∗ Free d i X arg6 arg12.sem (s 2) ∗ Fetch d i X arg7 arg13.sem (s 3) (4 * q.val + 3))
    ∗ (∃ g, Own d i arg8 g) ∗ UpTo d i arg9 (target i X) (512 * q.val + 320) ∗ Owing d i O W)
    ⊢ wpT (F := F) d i (k0_part8 i obsM harg2 outM harg3 arg4 harg4 arg5 harg5 arg6 harg6 arg7 harg7 arg8 harg8 arg9 harg9 arg10 arg11 arg12 arg13 r0 v2 v3 k0_pay28 k0_pay29 k0_pay30 q c c' c'') (fun _ => iprop(Transfers.MayWaits (thr d i) (none : HIx 1) O
    ∗ (Fetch d i X arg4 arg10.sem (s 0) (4 * q.val + 4) ∗ Fetch d i X arg5 arg11.sem (s 1) (4 * q.val + 5) ∗ Fetch d i X arg6 arg12.sem (s 2) (4 * q.val + 6) ∗ Free d i X arg7 arg13.sem (s 3))
    ∗ UpTo d i arg8 (histN (rowN X (base i + (4 * q.val + 3))) 256) 1024 ∗ UpTo d i arg9 (target i X) (512 * q.val + 384) ∗ Owing d i O W)) := by
  rw [k0_part8_eq_skeleton]
  unfold k0_part8_skel
  dsimp only
  iintro ⟨#Hm, ⟨H0, H1, H2, H3⟩, HH, HA, HO⟩
  iapply (wp_next d i (A := arg9) (T := target i X) (512 * q.val + 320) ((k0_off8_eq q 2 0).trans (congrArg (fun m => ![m]) (by show 512 * q.val + 128 * 2 + 16 * 0 + 64 = _; omega)))
    (target_rest i X hX (r := 4 * q.val + 2) (by omega) (by omega))) $$ HA
  iintro HA
  iapply (wp_next d i (A := arg9) (T := target i X) (512 * q.val + 336) ((k0_off8_eq q 2 1).trans (congrArg (fun m => ![m]) (by show 512 * q.val + 128 * 2 + 16 * 1 + 64 = _; omega)))
    (target_rest i X hX (r := 4 * q.val + 2) (by omega) (by omega))) $$ HA
  iintro HA
  iapply (wp_next d i (A := arg9) (T := target i X) (512 * q.val + 352) ((k0_off8_eq q 2 2).trans (congrArg (fun m => ![m]) (by show 512 * q.val + 128 * 2 + 16 * 2 + 64 = _; omega)))
    (target_rest i X hX (r := 4 * q.val + 2) (by omega) (by omega))) $$ HA
  iintro HA
  iapply (wp_next d i (A := arg9) (T := target i X) (512 * q.val + 368) ((k0_off8_eq q 2 3).trans (congrArg (fun m => ![m]) (by show 512 * q.val + 128 * 2 + 16 * 3 + 64 = _; omega)))
    (target_rest i X hX (r := 4 * q.val + 2) (by omega) (by omega))) $$ HA
  iintro HA
  iapply (wp_start d i X (b := arg6) (sem := arg12.sem) (s := s 2) (r := 4 * q.val + 6) (cond4_iff q) ((k0_off19_eq i q).trans (congrArg (fun m => ![m, 0]) (by unfold base; omega))) (fun _ => rfl)) $$ H2
  iintro H2
  iapply (wp_row d i X (arg8 := arg8) (b := arg7) (sem := arg13.sem) (O := O) (W := W) (s := s 3) (r := 4 * q.val + 3) (row_lt q (by decide)) rfl rfl hX (k0_off20 ·) (k0_off20_inb ·) (k0_off20_eq ·)
    (zero_3 (F := F) i obsM harg2 outM harg3 arg4 harg4 arg5 harg5 arg6 harg6 arg7 harg7 arg8 harg8 arg9 harg9 arg10 arg11 arg12 arg13 r0 v2 v3 q c c' c'') (count_3 (F := F) i obsM harg2 outM harg3 arg4 harg4 arg5 harg5 arg6 harg6 arg7 harg7 arg8 harg8 arg9 harg9 arg10 arg11 arg12 arg13 r0 v2 v3 q c c' c'') (show Lanes 0 (k0_pay23 v3, k0_pay24 v3) from lanes_zero v3 hv3)) $$ [H3 HH HO]
  · isplitr; · iexact Hm
    isplitl [H3]; · iexact H3
    isplitl [HH] <;> iassumption
  iintro %p ⟨H3, HH, HO⟩
  iapply (wpT_ret d i)
  isplitr; · iexact Hm
  isplitl [H0 H1 H2 H3]
  · isplitl [H0]; · iexact H0
    isplitl [H1]; · iexact H1
    isplitl [H2] <;> iassumption
  isplitl [HH]; · iexact HH
  isplitl [HA] <;> iassumption

include hX hv3 in
/-- One trip: four more rows counted. -/
theorem wp_trip (acc : BitVec 32) :
    Trip d i X arg4 arg5 arg6 arg7 arg8 arg9 arg10 arg11 arg12 arg13 s O W q.val
    ⊢ wpT (F := F) d i (k0_t1_body i obsM harg2 outM harg3 arg4 harg4 arg5 harg5 arg6 harg6 arg7 harg7 arg8 harg8 arg9 harg9 arg10 arg11 arg12 arg13 r0 v2 v3 q acc) (fun _ => Trip d i X arg4 arg5 arg6 arg7 arg8 arg9 arg10 arg11 arg12 arg13 s O W (q.val + 1)) := by
  unfold k0_t1_body
  dsimp only
  iintro H
  iapply (wpT_bind d i (wp_part5 d i X arg4 harg4 arg5 harg5 arg6 harg6 arg7 harg7 arg8 harg8 arg9 harg9 arg10 arg11 arg12 arg13 r0 s O W harg2 harg3 v2 v3 hX hv3 q)) $$ H
  iintro %a H
  iapply (wpT_bind d i (wp_part6 d i X arg4 harg4 arg5 harg5 arg6 harg6 arg7 harg7 arg8 harg8 arg9 harg9 arg10 arg11 arg12 arg13 r0 s O W harg2 harg3 v2 v3 hX hv3 q _ _)) $$ H
  iintro %b H
  iapply (wpT_bind d i (wp_part7 d i X arg4 harg4 arg5 harg5 arg6 harg6 arg7 harg7 arg8 harg8 arg9 harg9 arg10 arg11 arg12 arg13 r0 s O W harg2 harg3 v2 v3 hX hv3 q _ _ _)) $$ H
  iintro %c H
  iapply (wpT_bind d i (wp_part8 d i X arg4 harg4 arg5 harg5 arg6 harg6 arg7 harg7 arg8 harg8 arg9 harg9 arg10 arg11 arg12 arg13 r0 s O W harg2 harg3 v2 v3 hX hv3 q _ _ _)) $$ H
  iintro %e ⟨#Hm, ⟨H0, H1, H2, H3⟩, HH, HA, HO⟩
  iapply (wp_sum d i (H := arg8) (A := arg9) (hX (base i + (4 * q.val + 3))) rfl (512 * q.val + 384) (fun v hv => target_ids i X hv _ (by omega)) _ _ _ _
    (fun t => laneOff_eq (k0_off21_eq t) (k0_off22_eq t)) (fun t => (k0_off23_eq q t).trans (congrArg (fun m => ![m]) (by omega))) (sum_3 (F := F) i obsM harg2 outM harg3 arg4 harg4 arg5 harg5 arg6 harg6 arg7 harg7 arg8 harg8 arg9 harg9 arg10 arg11 arg12 arg13 r0 q _)) $$ [HH HA]
  · isplitl [HH] <;> iassumption
  iintro %_ ⟨HH, HA⟩
  iapply (wp_next d i (A := arg9) (T := target i X) (512 * q.val + 448) ((k0_off8_eq q 3 0).trans (congrArg (fun m => ![m]) (by show 512 * q.val + 128 * 3 + 16 * 0 + 64 = _; omega)))
    (target_rest i X hX (r := 4 * q.val + 3) (by omega) (by omega))) $$ HA
  iintro HA
  iapply (wp_next d i (A := arg9) (T := target i X) (512 * q.val + 464) ((k0_off8_eq q 3 1).trans (congrArg (fun m => ![m]) (by show 512 * q.val + 128 * 3 + 16 * 1 + 64 = _; omega)))
    (target_rest i X hX (r := 4 * q.val + 3) (by omega) (by omega))) $$ HA
  iintro HA
  iapply (wp_next d i (A := arg9) (T := target i X) (512 * q.val + 480) ((k0_off8_eq q 3 2).trans (congrArg (fun m => ![m]) (by show 512 * q.val + 128 * 3 + 16 * 2 + 64 = _; omega)))
    (target_rest i X hX (r := 4 * q.val + 3) (by omega) (by omega))) $$ HA
  iintro HA
  iapply (wp_next d i (A := arg9) (T := target i X) (512 * q.val + 496) ((k0_off8_eq q 3 3).trans (congrArg (fun m => ![m]) (by show 512 * q.val + 128 * 3 + 16 * 3 + 64 = _; omega)))
    (target_rest i X hX (r := 4 * q.val + 3) (by omega) (by omega))) $$ HA
  iintro HA
  iapply (wpT_ret d i)
  unfold Trip
  rw [show 4 * (q.val + 1) = 4 * q.val + 4 by omega, show 512 * (q.val + 1) = 512 * q.val + 496 + 16 by omega]
  isplitr; · iexact Hm
  isplitl [H0 H1 H2 H3]
  · isplitl [H0]; · iexact H0
    isplitl [H1]; · iexact H1
    isplitl [H2] <;> iassumption
  isplitl [HH]; · iexact HH
  isplitl [HA] <;> iassumption

end Cert.Proof.Hist
end
-- ==== Proof.Tile.lean ====
/-
  The tile's body: the first three rows started, 32 trips of the loop, and the tile's 16384 counts copied to its row of
  the counts' array.
-/
module

public import proofs.«01_k».proof.Proof.Trip

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

/-- The counts' array as it is to be: row `r` has the counts of the observations' rows `128 r` to `128 r + 127`. -/
def counts (X : S4096x8192.Idx → BitVec 32) : S32x16384.Idx → BitVec 32 :=
  fun z => cnt (rowN X (128 * (z 0).val + (z 1).val / 128)) ((z 1).val % 128)

/-- The elements of the counts' array's row `r`. -/
def rowSet (r : ℕ) : Finset S32x16384.Idx := Finset.univ.filter fun z => (z 0).val = r

/-- The iota's lane `j` is `j`. -/
theorem iota_lane (j : S16.Idx) : (iota .scVector S16 32 [0] iota_S16_d0_w32_scVector : IVec S16 32) j = BitVec.ofNat 32 (j 0).val := by
  show BitVec.ofNat 32 (0 * 16 + (j 0).val) = _
  rw [Nat.zero_mul, Nat.zero_add]

variable (d : Dev nD) (i : grid0.Coords) (X : S4096x8192.Idx → BitVec 32)

/-- The row of the counts' array that is the tile's. -/
def slot : ℕ := 2 * (i 1).val + (i 0).val

/-- A tile's row of counts is a row of the array. -/
theorem slot_lt : slot i < 32 := by
  have h0 : (i 0).val < 2 := (i 0).isLt
  have h1 : (i 1).val < 16 := (i 1).isLt
  unfold slot; omega

/-- A tile's first row of observations. -/
theorem base_eq : base i = 128 * slot i := by unfold base slot; omega

/-- It as a memref. -/
abbrev outRow {off : Fin 2 → ℕ} (inb : ∀ a, off a + (![1, 16384] : Fin 2 → ℕ) a ≤ S32x16384.size a) : Memref sig .scVector .hbm S16384 .i32 :=
  rowOf outM off inb squeezes_S1x16384_S16384

/-- The elements of the tile's row as the program slices it. -/
theorem outRow_set : (outRow (row_inb (N := 16384) (slot_lt i))).view.set = rowSet (slot i) := by
  ext z
  unfold rowSet
  rw [Finset.mem_filter]
  constructor
  · intro h
    obtain ⟨y, -, hy⟩ := Finset.mem_map.mp h
    rw [← hy]
    exact ⟨Finset.mem_univ _, congrArg (fun z : S32x16384.Idx => (z 0).val) (rowOf_emb outM (slot_lt i) squeezes_S1x16384_S16384 y)⟩
  · rintro ⟨-, h⟩
    have e : z = (outRow (row_inb (N := 16384) (slot_lt i))).view.emb (fun a : Fin 1 => match a with | ⟨0, _⟩ => z 1) := by
      refine Eq.trans ?_ (rowOf_emb outM (slot_lt i) squeezes_S1x16384_S16384 _).symm
      funext a
      refine Fin.ext ?_
      match a with
      | ⟨0, _⟩ => exact h
      | ⟨1, _⟩ => rfl
    rw [e]
    exact View.emb_mem_set _ _

/-- The copied row is the counts' row. -/
theorem outRow_write (f : S32x16384.Idx → BitVec 32) (w : S16384.Idx → BitVec 32) (hw : ∀ y, w y = target i X (y 0).val) (z : S32x16384.Idx)
    (hz : z ∈ (outRow (row_inb (N := 16384) (slot_lt i))).view.set) :
    (outRow (row_inb (N := 16384) (slot_lt i))).view.write (Elt F) f w Finset.univ z = counts X z := by
  obtain ⟨y, -, hy⟩ := Finset.mem_map.mp hz
  rw [← hy, View.write_emb_of_mem _ _ (Finset.mem_univ _)]
  refine (hw y).trans (Eq.trans ?_ (congrArg (counts X) (rowOf_emb outM (slot_lt i) squeezes_S1x16384_S16384 y)).symm)
  unfold target
  rw [base_eq]
  rfl

/-- The tile's row of the counts' array. -/
def OutRow (f : S32x16384.Idx → BitVec 32) : sProp 𝕄 :=
  outM.view.loc (thr d i) ↦[rowSet (slot i)]{fullShare} (f : Buf (Elt F) (outM.view.loc (thr d i)))

/-- The counts on their way to it. -/
def Sent (arg9 : Memref sig .scVector .vmem S16384 .i32) (sem : DmaSem sig) : sProp 𝕄 :=
  Transfers.Flight EC (thr d i) (.dma sem) (none : HIx 1) (outRow (row_inb (N := 16384) (slot_lt i))).view.dmaCredit
    iprop(OutRow d i (counts X) ∗ ∃ g, Own d i arg9 g)

/-- Starting that copy. -/
theorem wp_send {arg9 : Memref sig .scVector .vmem S16384 .i32} {sem : DmaSem sig} {off : Fin 2 → ℕ} (ho : off = ![slot i, 0]) {inb}
    {h1 h2 h3} {α : Type} {k : PUnit → TProg F i α} {Q : α → sProp 𝕄} :
    iprop(UpTo d i arg9 (target i X) 16384 ∗ semVal (thr d i, .dma sem) 0 ∗ ∃ f, OutRow d i f) ⊢
      iprop((Sent d i X arg9 sem -∗ wpT d i (k ⟨⟩) Q)
      -∗ wpT d i (.op (.enqueueDma arg9 (.here (rowOf outM off inb squeezes_S1x16384_S16384)) (.dma sem) h1 h2 h3) k) Q) := by
  subst ho
  unfold UpTo Own OutRow Sent OutRow
  rw [← outRow_set i]
  iintro ⟨⟨%g, %hg, %f, %hf, Ha⟩, Hs, %f', Ho⟩ Hk
  iapply (Transfers.wp_dmaLocal EC Variants.none (thr d i) none (src := arg9) (via := .same)
    (dst := outRow (row_inb (N := 16384) (slot_lt i))) (sm := .dma sem) (q := fullShare) (fs := f) (Sd := (outRow (row_inb (N := 16384) (slot_lt i))).view.set) (fd := f') none
    (outRow (row_inb (N := 16384) (slot_lt i))).view.dmaCredit rfl (View.dmaCredit_pos _ (by decide)) (Finset.Subset.refl _)) $$ [Ha Hs Ho]
  · isplitl [Ha]; · iexact Ha
    isplitl [Ho]; · iexact Ho
    iexact Hs
  iintro Hf
  iapply Hk
  iapply (Transfers.Flight_mono EC (thr d i) ?_) $$ Hf
  iintro ⟨Ho, Ha⟩
  isplitl [Ho]
  · iapply (Entails.of_eq (pointsTo_congr (outRow_write (F := F) i X _ _ fun y => (congrFun hf y).trans (hg _ (y 0).isLt)))) $$ Ho
  unfold Own
  iexists g; iexists f
  isplitr; · ipureintro; exact hf
  iexact Ha

/-- Waiting for it. -/
theorem wp_sent {arg9 : Memref sig .scVector .vmem S16384 .i32} {sem : DmaSem sig} {off : Fin 2 → ℕ} (ho : off = ![slot i, 0]) {inb}
    {O : CellTallies nD τ sig (HIx 1)} {W : Waits sig (HIx 1)} {h1 h2} {α : Type} {k : PUnit → TProg F i α} {Q : α → sProp 𝕄} :
    iprop(Sent d i X arg9 sem ∗ owes (thr d i) O W ∗ Transfers.MayWaits (thr d i) (none : HIx 1) O) ⊢
      iprop(((OutRow d i (counts X) ∗ ∃ g, Own d i arg9 g) ∗ semVal (thr d i, .dma sem) 0 ∗ owes (thr d i) O (insert (SemLoc.dma sem, none) W)
        -∗ wpT d i (k ⟨⟩) Q)
      -∗ wpT d i (.op (.waitDma2 sem arg9 (rowOf outM off inb squeezes_S1x16384_S16384) h1 h2) k) Q) := by
  subst ho
  unfold Sent
  iintro ⟨HS, HO, Hm⟩ Hk
  ihave Hw := (Transfers.MayWaits.elim (.dma sem)) $$ Hm
  iapply (Transfers.wp_waitLocalO EC Variants.none (thr d i) none none (dstw := outRow (row_inb (N := 16384) (slot_lt i))) rfl) $$ [HS HO Hw]
  · isplitl [HS]; · iexact HS
    isplitl [HO]; · iexact HO
    iexact Hw
  iexact Hk

variable
  (arg4 : Memref sig .scVector .vmem S8192 .i32) (harg4 : arg4.IsWhole) (arg5 : Memref sig .scVector .vmem S8192 .i32)
  (harg5 : arg5.IsWhole) (arg6 : Memref sig .scVector .vmem S8192 .i32) (harg6 : arg6.IsWhole) (arg7 : Memref sig .scVector .vmem S8192 .i32)
  (harg7 : arg7.IsWhole) (arg8 : Memref sig .scVector .vmem S1024 .i32) (harg8 : arg8.IsWhole)
  (arg9 : Memref sig .scVector .vmem S16384 .i32) (harg9 : arg9.IsWhole) (arg10 arg11 arg12 arg13 r0 : DmaSems sig S_)
  (s : Fin 4 → PosShare TreeShare) (O : CellTallies nD τ sig (HIx 1)) (W : Waits sig (HIx 1))
  (harg2 : obsM.IsWhole) (harg3 : outM.IsWhole) (hX : ∀ n, Digits (rowN X n))

include hX in
/-- All but the last wait. -/
theorem wp_part9 :
    iprop(Transfers.MayWaits (thr d i) (none : HIx 1) O ∗ (Free d i X arg4 arg10.sem (s 0) ∗ Free d i X arg5 arg11.sem (s 1) ∗ Free d i X arg6 arg12.sem (s 2) ∗ Free d i X arg7 arg13.sem (s 3))
      ∗ (∃ g, Own d i arg8 g) ∗ (∃ g, Own d i arg9 g) ∗ Owing d i O W ∗ semVal (thr d i, .dma r0.sem) 0 ∗ ∃ f, OutRow d i f)
    ⊢ wpT (F := F) d i (k0_part9 i obsM harg2 outM harg3 arg4 harg4 arg5 harg5 arg6 harg6 arg7 harg7 arg8 harg8 arg9 harg9 arg10 arg11 arg12 arg13 r0) (fun _ =>
      iprop(Transfers.MayWaits (thr d i) (none : HIx 1) O ∗ (Free d i X arg4 arg10.sem (s 0) ∗ Free d i X arg5 arg11.sem (s 1) ∗ Free d i X arg6 arg12.sem (s 2) ∗ Free d i X arg7 arg13.sem (s 3))
        ∗ (∃ g, Own d i arg8 g) ∗ Owing d i O W ∗ Sent d i X arg9 r0.sem)) := by
  rw [k0_part9_eq_skeleton]
  unfold k0_part9_skel
  dsimp only
  iintro ⟨#Hm, ⟨H0, H1, H2, H3⟩, HH, HA, HO, Hs, Ho⟩
  iapply (wp_fetch d i X (b := arg4) (sem := arg10.sem) (q := s 0) (n := base i + 0) (by have := base_le i; omega) (k0_off1_eq i 0)) $$ H0
  iintro H0
  iapply (wp_fetch d i X (b := arg5) (sem := arg11.sem) (q := s 1) (n := base i + 1) (by have := base_le i; omega) (k0_off1_eq i 1)) $$ H1
  iintro H1
  iapply (wp_fetch d i X (b := arg6) (sem := arg12.sem) (q := s 2) (n := base i + 2) (by have := base_le i; omega) (k0_off1_eq i 2)) $$ H2
  iintro H2
  iapply (Scf.wp_for_bind frame (wpE (defs₀ (F := F)) Variants.none (thr d i) none) Set.univ _ _ _ k0_t1_ok _ _
    (fun q _ => Trip d i X arg4 arg5 arg6 arg7 arg8 arg9 arg10 arg11 arg12 arg13 s O W q) (fun q acc =>
      wp_trip d i X arg4 harg4 arg5 harg5 arg6 harg6 arg7 harg7 arg8 harg8 arg9 harg9 arg10 arg11 arg12 arg13 r0 s O W harg2 harg3
        _ _ hX iota_lane q acc)) $$ [H0 H1 H2 H3 HH HA HO]
  · unfold Trip Fetch
    rw [if_pos (by decide), if_pos (by decide), if_pos (by decide)]
    isplitr; · iexact Hm
    isplitl [H0 H1 H2 H3]
    · isplitl [H0]; · iexact H0
      isplitl [H1]; · iexact H1
      isplitl [H2] <;> iassumption
    isplitl [HH]; · iexact HH
    isplitl [HA]; swap; · iexact HO
    icases HA with ⟨%g, HA⟩
    unfold UpTo
    iexists g
    isplitr; · ipureintro; intro n hn; exact absurd hn (by omega)
    iexact HA
  iintro %acc HT
  rw [show Scf.trips k0_t1_loop.lb k0_t1_loop.ub k0_t1_loop.st = 32 by decide]
  unfold Trip Fetch
  rw [if_neg (by decide), if_neg (by decide), if_neg (by decide)]
  icases HT with ⟨-, HF, HH, HA, HO⟩
  iapply (wp_send d i X (arg9 := arg9) (sem := r0.sem) (k0_off24_eq i)) $$ [HA Hs Ho]
  · isplitl [HA]; · iexact HA
    isplitl [Hs] <;> iassumption
  iintro HS
  iapply (wpT_ret d i)
  isplitr; · iexact Hm
  isplitl [HF]; · iexact HF
  isplitl [HH]; · iexact HH
  isplitl [HO] <;> iassumption

include hX in
/-- The tile's body: its row of the counts' array is right, and the rest is as it was. -/
theorem wp_tile :
    iprop(Transfers.MayWaits (thr d i) (none : HIx 1) O ∗ (Free d i X arg4 arg10.sem (s 0) ∗ Free d i X arg5 arg11.sem (s 1) ∗ Free d i X arg6 arg12.sem (s 2) ∗ Free d i X arg7 arg13.sem (s 3))
      ∗ (∃ g, Own d i arg8 g) ∗ (∃ g, Own d i arg9 g) ∗ Owing d i O W ∗ semVal (thr d i, .dma r0.sem) 0 ∗ ∃ f, OutRow d i f)
    ⊢ wpT (F := F) d i (cc0__hist_body i obsM harg2 outM harg3 arg4 harg4 arg5 harg5 arg6 harg6 arg7 harg7 arg8 harg8 arg9 harg9 arg10 arg11 arg12 arg13 r0) (fun _ =>
      iprop((Free d i X arg4 arg10.sem (s 0) ∗ Free d i X arg5 arg11.sem (s 1) ∗ Free d i X arg6 arg12.sem (s 2) ∗ Free d i X arg7 arg13.sem (s 3))
        ∗ (∃ g, Own d i arg8 g) ∗ (∃ g, Own d i arg9 g) ∗ Owing d i O W ∗ semVal (thr d i, .dma r0.sem) 0 ∗ OutRow d i (counts X))) := by
  rw [cc0__hist_body_eq_skeleton]
  unfold cc0__hist_body_skel
  dsimp only
  iintro H
  iapply (wpT_bind d i (wp_part9 d i X arg4 harg4 arg5 harg5 arg6 harg6 arg7 harg7 arg8 harg8 arg9 harg9 arg10 arg11 arg12 arg13 r0 s O W harg2 harg3 hX)) $$ H
  iintro %a ⟨Hm, HF, HH, HO, HS⟩
  unfold Owing
  icases HO with ⟨%W', %hW', HO⟩
  iapply (wp_sent d i X (arg9 := arg9) (sem := r0.sem) (k0_off24_eq i)) $$ [HS HO Hm]
  · isplitl [HS]; · iexact HS
    isplitl [HO] <;> iassumption
  iintro ⟨⟨Ho, HA⟩, Hs, HO⟩
  iapply (wpT_ret d i)
  isplitl [HF]; · iexact HF
  isplitl [HH]; · iexact HH
  isplitl [HA]; · iexact HA
  isplitl [HO]
  · iexists _; isplitr; swap; · iexact HO
    ipureintro
    intro p hp
    rcases Finset.mem_insert.mp hp with rfl | hp
    · exact .inr rfl
    · exact hW' p hp
  isplitl [Hs] <;> iassumption

end Cert.Proof.Hist
end
-- ==== Proof.Parts.lean ====
/-
  What a tile owns: its six scratch buffers and five semaphores among all that are its own, and its part of the two
  arrays in HBM.
-/
module

public import proofs.«01_k».proof.Proof.Tile

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

/-! ## A tile's scratch and semaphores -/

/-- The tile's scratch buffers, -/
abbrev bufs : Fin 6 → Ref sig .scVector := ![cc0_scratch0, cc0_scratch1, cc0_scratch2, cc0_scratch3, cc0_scratch4, cc0_scratch5]

/-- and its semaphores. -/
abbrev sems : Fin 5 → DmaSem sig :=
  ![cc0_scratch6.sem, cc0_scratch7.sem, cc0_scratch8.sem, cc0_scratch9.sem, cc0_scoped0.sem]

/-- The four copies' semaphores belong to the task. -/
theorem sems_scoped : ∀ n, (SemLoc.dma (sems n) : SemLoc sig).isScoped .scVector = true := by decide

/-- The four semaphores differ. -/
theorem sems_injective : Function.Injective sems := by decide

/-- The four row buffers differ. -/
theorem bufs_injective : Function.Injective bufs := by decide

variable (d : Dev nD) (i : grid0.Coords)

/-- The tile's semaphores as cells of the machine, -/
abbrev cellsOf (n : Fin 5) : GSem nD τ sig := (thr d i, .dma (sems n))

/-- and its scratch buffers as the device's. -/
abbrev refsOf (n : Fin 6) : DevRef τ sig := (thr d i).2.devRef (bufs n)

omit [FloatOps F] in
/-- All the tile's own semaphores at zero: its five, and others. -/
theorem sems_split :
    (SparseCore.Cfg.ownSems0 (thr d i) : sProp 𝕄)
      = iprop((bigSep Finset.univ fun n : Fin 5 => semVal (cellsOf d i n) 0)
          ∗ bigSep (SparseCore.Cfg.ownCells (thr d i) \ Finset.univ.image (cellsOf d i)) fun g => semVal g 0) := by
  unfold SparseCore.Cfg.ownSems0
  refine (SparseCore.bigSep_sdiff_split' (t := Finset.univ.image (cellsOf d i)) fun g hg => ?_).trans ?_
  · obtain ⟨n, -, rfl⟩ := Finset.mem_image.mp hg
    exact SparseCore.Cfg.mem_ownCells.mpr ⟨rfl, sems_scoped n⟩
  · rw [bigSep_image_of_injOn fun a _ b _ h => sems_injective (SemLoc.dma.inj (Prod.mk.inj h).2)]

omit [FloatOps F] in
/-- All the tile's own buffers, at some contents each: its six, and others. -/
theorem bufs_split :
    (SparseCore.Cfg.ownBufs (thr d i) : sProp 𝕄)
      = iprop((bigSep Finset.univ fun n : Fin 6 => iprop(∃ f, (thr d i).loc (bufs n) ↦{fullShare} f))
          ∗ bigSep (SparseCore.Cfg.ownRefs (τ := τ) (thr d i).2 \ Finset.univ.image (refsOf d i))
              fun b => iprop(∃ f, ((d, b) : Loc nD τ sig) ↦{fullShare} f)) := by
  unfold SparseCore.Cfg.ownBufs
  refine (SparseCore.bigSep_sdiff_split' (t := Finset.univ.image (refsOf d i)) fun g hg => ?_).trans ?_
  · obtain ⟨n, -, rfl⟩ := Finset.mem_image.mp hg
    refine SparseCore.Cfg.mem_ownRefs_of_owner ?_
    match n with
    | 0 | 1 | 2 | 3 | 4 | 5 => rfl
  · rw [bigSep_image_of_injOn fun a _ b _ h => bufs_injective (Proc.devRef_injective _ h)]

omit [FloatOps F] in
/-- A one-axis memref of the tile's at some contents: the tile owns it, with its words by their positions. -/
theorem own_intro {sp : Space} {n : ℕ} (M : Memref sig .scVector sp ⟨1, ![n]⟩ .i32) :
    iprop(∃ f, M.view.loc (thr d i) ↦[M.view.set]{fullShare} f) ⊢ (iprop(∃ g, Own d i M g) : sProp 𝕄) := by
  iintro ⟨%f, H⟩
  iexists (fun k : ℕ => if h : k < n then M.view.read (Elt F) f (fun a : Fin 1 => match a with | ⟨0, _⟩ => ⟨k, h⟩) else 0#32)
  unfold Own
  iexists f
  isplitr; swap; · iexact H
  ipureintro
  funext y
  refine Eq.symm ((dif_pos (y 0).isLt).trans (congrArg (M.view.read (Elt F) f) (funext fun a => ?_)))
  match a with
  | ⟨0, _⟩ => rfl

omit [FloatOps F] in
/-- And back. -/
theorem own_elim {sp : Space} {n : ℕ} (M : Memref sig .scVector sp ⟨1, ![n]⟩ .i32) :
    (iprop(∃ g, Own d i M g) : sProp 𝕄) ⊢ iprop(∃ f, M.view.loc (thr d i) ↦[M.view.set]{fullShare} f) := by
  unfold Own
  iintro ⟨%g, %f, -, H⟩
  iexists f; iexact H

omit [FloatOps F] in
/-- A whole buffer as a memref over it. -/
theorem whole_pts (b : Ref sig .scVector) :
    (iprop(∃ f, (thr d i).loc b ↦{fullShare} f) : sProp 𝕄)
      = iprop(∃ f, (Memref.whole b).view.loc (thr d i) ↦[(Memref.whole b).view.set]{fullShare} f) := by
  simp only [Memref.view_whole, View.set_whole]

/-! ## The two arrays among the tiles -/

/-- The tile's read share of the observations, out of 2 cores' and 16 tiles' each. -/
def shareOf (c : Fin 2) (s : Fin 16) : PosShare TreeShare := Transfers.shareTok (Transfers.shareTok fullShare 2 c) 16 s

variable (m : (ℓ : Loc nD τ sig) → Buf (Elt F) ℓ)

/-- The argument, the reshaped observations, the counts and the result, as device `d`'s locations. -/
abbrev aLoc (d : Dev nD) : Loc nD τ sig := (SparseCore.T d).loc main_arg0
/-- The observations, a row for each batch, on a device. -/
abbrev xLoc (d : Dev nD) : Loc nD τ sig := (SparseCore.T d).loc main_v0
/-- The counts, a row for each tile, on a device. -/
abbrev oLoc (d : Dev nD) : Loc nD τ sig := (SparseCore.T d).loc main_v1
/-- The result on a device. -/
abbrev rLoc (d : Dev nD) : Loc nD τ sig := (SparseCore.T d).loc main_v2

/-- The observations the call reads: the argument's words, a row of 8192 for each batch entry. -/
def obsOf (d : Dev nD) : S4096x8192.Idx → BitVec 32 :=
  shapeCast S4096x8192 (m (aLoc d) : S4096x64x64x2.Idx → BitVec 32) shapeCasts_S4096x64x64x2_S4096x8192

/-- A share of the observations. -/
abbrev obsPts (q : PosShare TreeShare) : sProp 𝕄 := xLoc d ↦{q} (obsOf m d : Buf (Elt F) (xLoc d))

/-- The rows of the counts' array that core `c`'s tiles write, -/
def coreSet (c : Fin 2) : Finset S32x16384.Idx := Finset.univ.filter fun z => (z 0).val % 2 = c.val

/-- and tile `(c, s)`'s. -/
abbrev tileSet (c : Fin 2) (s : Fin 16) : Finset S32x16384.Idx := rowSet (2 * s.val + c.val)

/-- A tile's row of the counts' array at `f`. -/
abbrev rowPts (c : Fin 2) (s : Fin 16) (f : S32x16384.Idx → BitVec 32) : sProp 𝕄 :=
  oLoc d ↦[tileSet c s]{fullShare} (f : Buf (Elt F) (oLoc d))

/-- All the counts' array at `f`. -/
abbrev outPts (f : S32x16384.Idx → BitVec 32) : sProp 𝕄 := oLoc d ↦{fullShare} (f : Buf (Elt F) (oLoc d))

/-- The two SparseCores' rows of counts are apart. -/
theorem coreSet_disjoint : ∀ a ∈ (Finset.univ : Finset (Fin 2)), ∀ b ∈ (Finset.univ : Finset (Fin 2)), a ≠ b → Disjoint (coreSet a) (coreSet b) := by
  intro a _ b _ hab
  refine Finset.disjoint_left.mpr fun z ha hb => hab (Fin.ext ?_)
  exact ((Finset.mem_filter.mp ha).2).symm.trans (Finset.mem_filter.mp hb).2

/-- The rows of counts of a SparseCore's tiles are apart. -/
theorem tileSet_disjoint (c : Fin 2) :
    ∀ a ∈ (Finset.univ : Finset (Fin 16)), ∀ b ∈ (Finset.univ : Finset (Fin 16)), a ≠ b → Disjoint (tileSet c a) (tileSet c b) := by
  intro a _ b _ hab
  refine Finset.disjoint_left.mpr fun z ha hb => hab (Fin.ext ?_)
  have h1 := (Finset.mem_filter.mp ha).2
  have h2 := (Finset.mem_filter.mp hb).2
  omega

/-- The two SparseCores' rows are all the rows. -/
theorem coreSet_cover : Finset.univ.biUnion coreSet = Finset.univ := by
  refine Finset.eq_univ_of_forall fun z => Finset.mem_biUnion.mpr ⟨⟨(z 0).val % 2, Nat.mod_lt _ (by decide)⟩, Finset.mem_univ _, ?_⟩
  exact Finset.mem_filter.mpr ⟨Finset.mem_univ _, rfl⟩

/-- The rows of a SparseCore's tiles are the SparseCore's. -/
theorem tileSet_cover (c : Fin 2) : Finset.univ.biUnion (tileSet c) = coreSet c := by
  ext z
  constructor
  · intro h
    obtain ⟨s, -, hs⟩ := Finset.mem_biUnion.mp h
    have h1 := (Finset.mem_filter.mp hs).2
    refine Finset.mem_filter.mpr ⟨Finset.mem_univ _, ?_⟩
    have := c.isLt
    omega
  · intro h
    have h1 := (Finset.mem_filter.mp h).2
    have hz : (z 0).val < 32 := (z 0).isLt
    refine Finset.mem_biUnion.mpr ⟨⟨(z 0).val / 2, by omega⟩, Finset.mem_univ _, Finset.mem_filter.mpr ⟨Finset.mem_univ _, ?_⟩⟩
    show (z 0).val = 2 * ((z 0).val / 2) + c.val
    omega

omit [FloatOps F] in
/-- The counts' array is its rows, tile by tile. -/
theorem out_rows (f : S32x16384.Idx → BitVec 32) :
    (outPts d f : sProp 𝕄) = bigSep Finset.univ fun c : Fin 2 => bigSep Finset.univ fun s : Fin 16 => rowPts d c s f := by
  have h1 := pointsTo_biUnion (Val := Elt F) (Ix := HIx 1) (Name := ℕ) (U := UU) (Lvl := ℕ) (q := fullShare) (f := (f : Buf (Elt F) (oLoc d)))
    Finset.univ (ℓ := oLoc d) coreSet coreSet_disjoint
  rw [coreSet_cover] at h1
  refine h1.trans (bigSep_congr fun c _ => ?_)
  have h2 := pointsTo_biUnion (Val := Elt F) (Ix := HIx 1) (Name := ℕ) (U := UU) (Lvl := ℕ) (q := fullShare) (f := (f : Buf (Elt F) (oLoc d)))
    Finset.univ (ℓ := oLoc d) (tileSet c) (tileSet_disjoint c)
  rw [tileSet_cover] at h2
  exact h2

end Cert.Proof.Hist
end
-- ==== Proof.Task.lean ====
/-
  The call's payloads, a tile's task, and how a core's share of the arrays is dealt to its tiles.
-/
module

public import proofs.«01_k».proof.Proof.Parts

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

/-! ## The program as the launch theorem sees it -/

/-- The labels of the program's loops. -/
abbrev ΛP : Labels := Pipeline.Sig Λ₀ (Fin 0) fun p => (pcfgs (F := F) p).Adm
/-- The program's one SparseCore call. -/
abbrev K : SparseCore.Cfg τ sig (ΛP (F := F)) 1 := sc (F := F)
/-- The definitions of the labels. -/
abbrev D : Defs nD τ sig (Elt F) (ΛP (F := F)) := Pipeline.defs pcfgs defs₀
/-- No loop needs a measure. -/
abbrev 𝒱₀ : Variants := Variants.none
/-- The same, for the call's labels. -/
abbrev 𝒱 : Variants := 𝒱₀.lift
/-- The one value of it. -/
abbrev v₀ : 𝒱.V := Sum.inl none

omit [FloatOps F] in
/-- The call runs on two SparseCores. -/
theorem nCore_zero : (K (F := F)).nCore 0 = 2 := rfl

omit [FloatOps F] in
/-- The call runs on sixteen tiles of each. -/
theorem nSub_zero : (K (F := F)).nSub 0 = 16 := rfl

omit [FloatOps F] in
/-- The side conditions of the call's handshakes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ)

/-! ## What the handshakes carry -/

/-- A task goes out with its share of the observations and its row of the counts' array as the launch left it, -/
abbrev goes (d : Dev nD) (c : Fin 2) (s : Fin 16) : sProp 𝕄 :=
  iprop(obsPts d m (shareOf c s) ∗ rowPts d c s (m (oLoc d)))

/-- and comes back with the row holding the counts. -/
abbrev comes (d : Dev nD) (c : Fin 2) (s : Fin 16) : sProp 𝕄 := rowPts d c s (counts (obsOf m d))

/-- A core is started with its share of the observations and its tiles' rows, -/
abbrev starts (d : Dev nD) (c : Fin 2) : sProp 𝕄 :=
  iprop(obsPts d m (Transfers.shareTok fullShare 2 c) ∗ bigSep Finset.univ fun s : Fin 16 => rowPts d c s (m (oLoc d)))

/-- and ends with the rows holding the counts. -/
abbrev ends (d : Dev nD) (c : Fin 2) : sProp 𝕄 := bigSep Finset.univ fun s : Fin 16 => comes m d c s

/-- The call's payloads. -/
def P : (K (F := F)).Pay (nD := nD) (Val := Elt F) (Name := ℕ) (U := UU) where
  st := fun q d c => match q with | 0 => starts m d (Fin.cast nCore_zero c)
  dn := fun q d c => match q with | 0 => ends m d (Fin.cast nCore_zero c)
  go := fun q d c i => match q with | 0 => goes m d (Fin.cast nCore_zero c) (Fin.cast nSub_zero i)
  td := fun q d c i => match q with | 0 => comes m d (Fin.cast nCore_zero c) (Fin.cast nSub_zero i)
  x := fun _ _ => iprop(emp)

instance P_storable : (P (F := F) m).IsStorable where
  st q d c := match q with
    | 0 => (inferInstance : BI.Storable (upEmb : UEmb _ 𝕄) (starts m d (Fin.cast nCore_zero c)))
  dn q d c := match q with
    | 0 => (inferInstance : BI.Storable (upEmb : UEmb _ 𝕄) (ends m d (Fin.cast nCore_zero c)))
  go q d c i := match q with
    | 0 => (inferInstance : BI.Storable (upEmb : UEmb _ 𝕄) (goes m d (Fin.cast nCore_zero c) (Fin.cast nSub_zero i)))
  td q d c i := match q with
    | 0 => (inferInstance : BI.Storable (upEmb : UEmb _ 𝕄) (comes m d (Fin.cast nCore_zero c) (Fin.cast nSub_zero i)))

/-! ## The task -/

/-- The body's words are all below 8 on the rows the tiles read. -/
def PreOK : Prop := ∀ d n, Digits (rowN (obsOf m d) n)

omit [FloatOps F] in
/-- A share of the observations is one for each of the four buffers, and a rest. -/
theorem obs_four (d : Dev nD) (q : PosShare TreeShare) :
    (obsPts d m q : sProp 𝕄) ⊢ iprop(obsPts d m (Transfers.shareTok q 4 0) ∗ obsPts d m (Transfers.shareTok q 4 1)
      ∗ obsPts d m (Transfers.shareTok q 4 2) ∗ obsPts d m (Transfers.shareTok q 4 3)) := by
  refine (Transfers.pointsTo_toks_split q 4).trans ?_
  refine sep_elim_right.trans (Entails.of_eq ?_)
  rw [show (Finset.univ : Finset (Fin 4)) = {0, 1, 2, 3} by decide, SparseCore.bigSep_insert' (by decide),
    SparseCore.bigSep_insert' (by decide), SparseCore.bigSep_insert' (by decide), bigSep_singleton]

omit [FloatOps F] in
/-- The six scratch buffers one by one. -/
theorem six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide),
    SparseCore.bigSep_insert' (by decide), SparseCore.bigSep_insert' (by decide), SparseCore.bigSep_insert' (by decide),
    SparseCore.bigSep_insert' (by decide), bigSep_singleton]

omit [FloatOps F] in
/-- The five semaphores one by one. -/
theorem five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide),
    SparseCore.bigSep_insert' (by decide), SparseCore.bigSep_insert' (by decide), SparseCore.bigSep_insert' (by decide),
    bigSep_singleton]

/-- A tile's core and place on it. -/
abbrev coreOf (i : grid0.Coords) : Fin 2 := i 0
/-- The tile of a pair of SparseCore and tile. -/
abbrev subOf (i : grid0.Coords) : Fin 16 := i 1

variable (d : Dev nD) (i : grid0.Coords)

omit [FloatOps F] in
/-- A scratch buffer of 8192 words is owned, whatever it holds. -/
theorem own_whole {n : ℕ} (b : Ref sig .scVector) (M : Memref sig .scVector b.space ⟨1, ![n]⟩ .i32)
    (e : iprop(∃ f, (Memref.whole b).view.loc (thr d i) ↦[(Memref.whole b).view.set]{fullShare} f)
      = (iprop(∃ f, M.view.loc (thr d i) ↦[M.view.set]{fullShare} f) : sProp 𝕄)) :
    (iprop(∃ f, (thr d i).loc b ↦{fullShare} f) : sProp 𝕄) ⊢ iprop(∃ g, Own d i M g) :=
  (Entails.of_eq ((whole_pts d i b).trans e)).trans (own_intro d i M)

omit [FloatOps F] in
/-- And back. -/
theorem whole_own {n : ℕ} (b : Ref sig .scVector) (M : Memref sig .scVector b.space ⟨1, ![n]⟩ .i32)
    (e : iprop(∃ f, (Memref.whole b).view.loc (thr d i) ↦[(Memref.whole b).view.set]{fullShare} f)
      = (iprop(∃ f, M.view.loc (thr d i) ↦[M.view.set]{fullShare} f) : sProp 𝕄)) :
    (iprop(∃ g, Own d i M g) : sProp 𝕄) ⊢ iprop(∃ f, (thr d i).loc b ↦{fullShare} f) :=
  (own_elim d i M).trans (Entails.of_eq ((whole_pts d i b).trans e).symm)

omit [FloatOps F] in
/-- The tile's scratch buffers by name. -/
theorem bufs_named : (bigSep Finset.univ fun n : Fin 6 => iprop(∃ f, (thr d i).loc (bufs n) ↦{fullShare} f))
    = (iprop((∃ f, (thr d i).loc cc0_scratch0 ↦{fullShare} f) ∗ (∃ f, (thr d i).loc cc0_scratch1 ↦{fullShare} f)
      ∗ (∃ f, (thr d i).loc cc0_scratch2 ↦{fullShare} f) ∗ (∃ f, (thr d i).loc cc0_scratch3 ↦{fullShare} f)
      ∗ (∃ f, (thr d i).loc cc0_scratch4 ↦{fullShare} f) ∗ ∃ f, (thr d i).loc cc0_scratch5 ↦{fullShare} f) : sProp 𝕄) := six _

omit [FloatOps F] in
/-- The tile's semaphores by name. -/
theorem sems_named : (bigSep Finset.univ fun n : Fin 5 => semVal (cellsOf d i n) 0)
    = (iprop(semVal (thr d i, .dma cc0_scratch6.sem) 0 ∗ semVal (thr d i, .dma cc0_scratch7.sem) 0
      ∗ semVal (thr d i, .dma cc0_scratch8.sem) 0 ∗ semVal (thr d i, .dma cc0_scratch9.sem) 0
      ∗ semVal (thr d i, .dma cc0_scoped0.sem) 0) : sProp 𝕄) := five _

/-- The four shares, by buffer. -/
abbrev bufShare (b : Fin 4) : PosShare TreeShare := Transfers.shareTok (shareOf (coreOf i) (subOf i)) 4 b

omit [FloatOps F] in
/-- The tile's row of the counts' array, as the tile names it and as the launch does. -/
theorem outRow_eq (f : S32x16384.Idx → BitVec 32) : (OutRow d i f : sProp 𝕄) = rowPts d (coreOf i) (subOf i) f := rfl

/-- The task on tile `i` of device `d`. -/
theorem tile_body (hX : PreOK m) (O : CellTallies nD τ sig (HIx 1)) (W : Waits sig (HIx 1)) (hO : ∀ g, O g none = 0) :
    iprop(levAts (K (F := F)).L (K (F := F)).lev ∗ (emp : sProp 𝕄) ∗ goes m d (coreOf i) (subOf i)
        ∗ scopedBufs (thr d i) ∗ scopedSems0 (thr d i) ∗ owes (thr d i) O W)
    ⊢ wp frame (wpE (defs₀ (F := F)) 𝒱₀ (thr d i) none) Set.univ
        (cc0__hist_body (F := F) i (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scoped0)
        fun _ => iprop(comes m d (coreOf i) (subOf i) ∗ scopedBufs (thr d i) ∗ scopedSems0 (thr d i)
          ∗ ∃ W', ⌜∀ p ∈ W', p ∈ W ∨ p.2 = none⌝ ∗ owes (thr d i) O W') := by
  rw [(K (F := F)).scopedBufs_V facts d ((i 0).castLE hcore0) ((i 1).castLE hsub0),
    SparseCore.Cfg.scopedSems0_V (Val := Elt F) d ((i 0).castLE hcore0) ((i 1).castLE hsub0), sems_split, bufs_split, bufs_named, sems_named]
  iintro ⟨#Hlv, -, ⟨Hx, Hrow⟩, ⟨⟨H0, H1, H2, H3, H4, H5⟩, Hbufs⟩, ⟨⟨S0, S1, S2, S3, S4⟩, Hsems⟩, HO⟩
  ihave Hm := ((K (F := F)).mayWaits_none (thr := thr d i) hO) $$ Hlv
  ihave Hq := (obs_four m d (shareOf (coreOf i) (subOf i))) $$ Hx
  icases Hq with ⟨X0, X1, X2, X3⟩
  ihave B0 := (own_whole d i cc0_scratch0 (Memref.whole cc0_scratch0) rfl) $$ H0
  ihave B1 := (own_whole d i cc0_scratch1 (Memref.whole cc0_scratch1) rfl) $$ H1
  ihave B2 := (own_whole d i cc0_scratch2 (Memref.whole cc0_scratch2) rfl) $$ H2
  ihave B3 := (own_whole d i cc0_scratch3 (Memref.whole cc0_scratch3) rfl) $$ H3
  ihave B4 := (own_whole d i cc0_scratch4 (Memref.whole cc0_scratch4) rfl) $$ H4
  ihave B5 := (own_whole d i cc0_scratch5 (Memref.whole cc0_scratch5) rfl) $$ H5
  iapply ((wp_tile d i (obsOf m d) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scoped0 (bufShare i) O W (Memref.isWhole_whole _) (Memref.isWhole_whole _) (hX d)).trans
      (wp_wand frame (wpE (defs₀ (F := F)) 𝒱₀ (thr d i) none) Set.univ)) $$ [Hm X0 X1 X2 X3 B0 B1 B2 B3 B4 B5 S0 S1 S2 S3 S4 HO Hrow]
  · isplitl [Hm]; · iexact Hm
    isplitl [X0 X1 X2 X3 B0 B1 B2 B3 S0 S1 S2 S3]
    · unfold Free Obs
      isplitl [X0 B0 S0]; · isplitl [B0]; · iexact B0
                            isplitl [S0]; · iexact S0
                            iexact X0
      isplitl [X1 B1 S1]; · isplitl [B1]; · iexact B1
                            isplitl [S1]; · iexact S1
                            iexact X1
      isplitl [X2 B2 S2]; · isplitl [B2]; · iexact B2
                            isplitl [S2]; · iexact S2
                            iexact X2
      isplitl [B3]; · iexact B3
      isplitl [S3]; · iexact S3
      iexact X3
    isplitl [B4]; · iexact B4
    isplitl [B5]; · iexact B5
    isplitl [HO]
    · unfold Owing
      iexists W
      isplitr; · ipureintro; exact fun p hp => .inl hp
      iexact HO
    isplitl [S4]; · iexact S4
    iexists (m (oLoc d)); iapply (Entails.of_eq (outRow_eq d i (m (oLoc d))).symm); iexact Hrow
  iintro %a ⟨⟨F0, F1, F2, F3⟩, B4, B5, HO, S4, Hrow⟩
  unfold Free Owing
  icases F0 with ⟨B0, S0, -⟩
  icases F1 with ⟨B1, S1, -⟩
  icases F2 with ⟨B2, S2, -⟩
  icases F3 with ⟨B3, S3, -⟩
  ihave H0 := (whole_own d i cc0_scratch0 (Memref.whole cc0_scratch0) rfl) $$ B0
  ihave H1 := (whole_own d i cc0_scratch1 (Memref.whole cc0_scratch1) rfl) $$ B1
  ihave H2 := (whole_own d i cc0_scratch2 (Memref.whole cc0_scratch2) rfl) $$ B2
  ihave H3 := (whole_own d i cc0_scratch3 (Memref.whole cc0_scratch3) rfl) $$ B3
  ihave H4 := (whole_own d i cc0_scratch4 (Memref.whole cc0_scratch4) rfl) $$ B4
  ihave H5 := (whole_own d i cc0_scratch5 (Memref.whole cc0_scratch5) rfl) $$ B5
  isplitl [Hrow]; · iapply (Entails.of_eq (outRow_eq d i (counts (obsOf m d)))); iexact Hrow
  isplitl [H0 H1 H2 H3 H4 H5 Hbufs]
  · isplitr [Hbufs]; swap; · iexact Hbufs
    isplitl [H0]; · iexact H0
    isplitl [H1]; · iexact H1
    isplitl [H2]; · iexact H2
    isplitl [H3]; · iexact H3
    isplitl [H4] <;> iassumption
  isplitl [S0 S1 S2 S3 S4 Hsems]
  · isplitr [Hsems]; swap; · iexact Hsems
    isplitl [S0]; · iexact S0
    isplitl [S1]; · iexact S1
    isplitl [S2]; · iexact S2
    isplitl [S3] <;> iassumption
  iexact HO

end Cert.Proof.Hist
end
-- ==== Proof.Launch.lean ====
/-
  The whole program's run: the reshape, the call on the 32 tiles, the reshape back; the argument is left as it was and
  the result holds the counts.
-/
module

public import proofs.«01_k».proof.Proof.Task

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

open Idealize.ShloMosaic.StableHlo (held wp_hlo_within)

variable (m : (ℓ : Loc nD τ sig) → Buf (Elt F) ℓ) (ρ : Dev nD → PrngReg)

/-- The embedding of the handshakes' rounds. -/
abbrev EH : Emb UH (MT nD τ sig (HIx 1) (Elt F) ℕ UU ℕ) := embL

/-! ## The tasks' obligations -/

/-- The coordinates of the tile on core `c` and place `s`. -/
def coordsOf (c : Fin (grid0.bound 0)) (s : Fin (grid0.bound 1)) : grid0.Coords :=
  fun | 0 => c | 1 => s | ⟨_ + 2, h⟩ => absurd h (Nat.not_lt.2 (Nat.le_add_left _ _))

/-- What the table of bodies runs on a tile. -/
theorem defs₀_tile (c : Fin τ.nSC) (s : Fin τ.nSub) :
    defs₀ (F := F) (.scVector c s) 0 ()
      = SparseCore.onTile hcore0 hsub0 (fun c s => cc0__hist_body (coordsOf c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scoped0) ⟨⟩ c s := rfl

omit [FloatOps F] in
/-- A task that has waited only on cells of its own keeps what the launch asks of its waits. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr; swap; · iexact HO
  ipureintro
  intro p hp
  rcases h p hp with h | h
  · exact .inl h
  · exact .inr (.inl h)

/-- Every tile keeps its part of the launch's bargain: its task runs, from what it is sent to what it sends back. -/
theorem tileObl (hX : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact (tile_body m d (coordsOf ⟨_, hc.1⟩ ⟨_, hc.2⟩) hX O W hO).trans (wp_mono frame _ _ fun _ => waits_weaken)

/-! ## A core's share dealt to its tiles -/

omit [FloatOps F] in
/-- A conjunction over the tiles, however their number is spelled. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A conjunction over the SparseCores, however their number is spelled. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A core's part is its tiles' parts (and a rest of the share). -/
theorem deal (d : Dev nD) (c : Fin 2) : (starts m d c : sProp 𝕄) ⊢ bigSep Finset.univ fun s : Fin 16 => goes m d c s := by
  rw [bigSep_sep']
  iintro ⟨Hx, Hr⟩
  isplitl [Hx]; swap; · iexact Hr
  ihave H := (Transfers.pointsTo_toks_split (Transfers.shareTok fullShare 2 c) 16) $$ Hx
  icases H with ⟨-, H⟩
  iexact H

/-- What a SparseCore is sent is dealt to its tiles, and what they send back is what it sends back. -/
theorem vecSplit : (K (F := F)).VecSplit' (P m) 0 := by
  intro d c
  show (starts m d (Fin.cast nCore_zero c) : sProp 𝕄) ⊢ |={Set.univ}=> iprop(
      (bigSep Finset.univ fun i : Fin ((K (F := F)).nSub 0) => goes m d (Fin.cast nCore_zero c) (Fin.cast nSub_zero i))
      ∗ ((bigSep Finset.univ fun i : Fin ((K (F := F)).nSub 0) => comes m d (Fin.cast nCore_zero c) (Fin.cast nSub_zero i))
          -∗ ends m d (Fin.cast nCore_zero c)))
  rw [bigSep_tiles (F := F) (fun s => goes m d (Fin.cast nCore_zero c) s), bigSep_tiles (F := F) (fun s => comes m d (Fin.cast nCore_zero c) s)]
  iintro H
  imodintro
  isplitl [H]; · iapply (deal m d (Fin.cast nCore_zero c)); iexact H
  iintro H; iexact H

/-! ## The launch's ghost state -/

/-- The launch's ghost element: the handshakes' counters at their start. -/
def u₀ : UU := (initOf (K (F := F)).hsCells (K (F := F)).hsToks, 1)

/-- The launch's ghost element gives the handshakes' start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : (bigSep Finset.univ fun thr : Thread nD τ => bigSep Finset.univ fun q : Fin 1 => (P m).x q thr) = (iprop(emp) : sProp 𝕄) :=
    (bigSep_congr fun thr _ => bigSep_emp_const (Finset.univ : Finset (Fin 1))).trans (bigSep_emp_const _)
  have hd : (bigSep Finset.univ fun _ : Dev nD => iprop(emp)) = (iprop(emp) : sProp 𝕄) := bigSep_emp_const _
  rw [he, hd]
  unfold u₀
  iintro Hu
  ihave H := (ownU_pair _ _) $$ Hu
  icases H with ⟨HH, -⟩
  imodintro
  isplitl [HH]; · iexact HH
  isplitr <;> iempintro

/-! ## @main -/

/-- The argument. -/
abbrev a' : DevRef τ sig := Proc.devRef .tc (main_arg0 : Ref sig .tc)
/-- The observations, a row for each batch. -/
abbrev x' : DevRef τ sig := Proc.devRef .tc (main_v0 : Ref sig .tc)
/-- The counts, a row for each tile. -/
abbrev o' : DevRef τ sig := Proc.devRef .tc (main_v1 : Ref sig .tc)
/-- The result. -/
abbrev r' : DevRef τ sig := Proc.devRef .tc (main_v2 : Ref sig .tc)

/-- The two reshapes. -/
abbrev opIn : HloOp τ sig (Elt F) :=
  StableHlo.reshape main_arg0 main_v0 (rfl : (.i32 : EltTy) = .i32) shapeCasts_S4096x64x64x2_S4096x8192
/-- The counts laid out as the result. -/
abbrev opOut : HloOp τ sig (Elt F) :=
  StableHlo.reshape main_v1 main_v2 (rfl : (.i32 : EltTy) = .i32) shapeCasts_S32x16384_S4096x128

/-- The program's four arrays. -/
abbrev arrays : Finset (DevRef τ sig) := {a', x', o', r'}

omit [FloatOps F] in
/-- The first reshape touches only the arrays held. -/
theorem opIn_bufs : (opIn (F := F)).bufs ⊆ arrays := show ({a', x'} : Finset (DevRef τ sig)) ⊆ arrays by decide

/-- The last operation's two. -/
abbrev lastArrays : Finset (DevRef τ sig) := {o', r'}

omit [FloatOps F] in
/-- The last reshape touches only the arrays held. -/
theorem opOut_bufs : (opOut (F := F)).bufs ⊆ lastArrays := show ({o', r'} : Finset (DevRef τ sig)) ⊆ lastArrays by decide

omit [FloatOps F] in
/-- Them held at a valuation, one by one. -/
theorem held_arrays (d : Dev nD) (w : Valuation τ sig (Elt F)) :
    (held (SparseCore.T d) arrays w : sProp 𝕄)
      = iprop((aLoc d ↦{fullShare} w a') ∗ (xLoc d ↦{fullShare} w x') ∗ (oLoc d ↦{fullShare} w o') ∗ rLoc d ↦{fullShare} w r') := by
  unfold held arrays
  rw [SparseCore.bigSep_insert' (by decide), SparseCore.bigSep_insert' (by decide), SparseCore.bigSep_insert' (by decide), bigSep_singleton]

/-- The launch's valuation, -/
def wIn (d : Dev nD) : Valuation τ sig (Elt F) := fun b => m (d, b)

/-- and the one after the call. -/
def wOut (d : Dev nD) : Valuation τ sig (Elt F) :=
  Function.update ((opIn (F := F)).result (wIn m d)) o' (counts (obsOf m d) : Buf (Elt F) (oLoc d))

omit [FloatOps F] in
/-- The TensorCore's arrays at the start are the four of @main, at their launch contents. -/
theorem unscoped_arrays (d : Dev nD) :
    (unscopedBufs d (fun b => m ((SparseCore.T d).loc b)) : sProp 𝕄) = held (SparseCore.T d) arrays (wIn m d) := by
  rw [held_arrays]
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]
  rfl

/-- The result: the counts' array, a row of 128 counts for each batch entry. -/
def resOf (d : Dev nD) : S4096x128.Idx → BitVec 32 := shapeCast S4096x128 (counts (obsOf m d)) shapeCasts_S32x16384_S4096x128

omit [FloatOps F] in
/-- The first reshape leaves the observations, a row for each batch. -/
theorem in_x (d : Dev nD) : (opIn (F := F)).result (wIn m d) x' = (obsOf m d : Buf (Elt F) (xLoc d)) :=
  StableHlo.reshape_result main_arg0 main_v0 rfl _ _ _ _

omit [FloatOps F] in
/-- The first reshape leaves the counts' array alone. -/
theorem in_o (d : Dev nD) : (opIn (F := F)).result (wIn m d) o' = m (oLoc d) :=
  (opIn (F := F)).result_of_not_mem _ (show o' ∉ ({x'} : Finset (DevRef τ sig)) by decide)

omit [FloatOps F] in
/-- The call changes no array but the counts'. -/
theorem out_of_ne (d : Dev nD) {b : DevRef τ sig} (h : b ≠ o') : wOut m d b = (opIn (F := F)).result (wIn m d) b :=
  Function.update_of_ne h _ _

omit [FloatOps F] in
/-- The call leaves the counts. -/
theorem out_o (d : Dev nD) : wOut m d o' = (counts (obsOf m d) : Buf (Elt F) (oLoc d)) := Function.update_self _ _ _

omit [FloatOps F] in
/-- The last reshape leaves the counts as the result. -/
theorem end_r (d : Dev nD) : (opOut (F := F)).result (wOut m d) r' = (resOf m d : Buf (Elt F) (rLoc d)) := by
  refine (StableHlo.reshape_result main_v1 main_v2 rfl _ _ _ _).trans ?_
  exact congrArg (fun f : S32x16384.Idx → BitVec 32 => shapeCast S4096x128 f shapeCasts_S32x16384_S4096x128) (out_o m d)

omit [FloatOps F] in
/-- The two arrays are the cores' parts (and a rest of the share). -/
theorem deal_cores (d : Dev nD) :
    iprop(obsPts d m fullShare ∗ outPts d (m (oLoc d))) ⊢ (bigSep Finset.univ fun c : Fin 2 => starts m d c : sProp 𝕄) := by
  rw [bigSep_sep', out_rows]
  iintro ⟨Hx, Ho⟩
  isplitl [Hx]; swap; · iexact Ho
  ihave H := (Transfers.pointsTo_toks_split fullShare 2) $$ Hx
  icases H with ⟨-, H⟩
  iexact H

omit [FloatOps F] in
/-- The call takes the reshaped observations and the counts' array, a part for each core, -/
theorem starts_intro (d : Dev nD) :
    iprop(obsPts d m fullShare ∗ outPts d (m (oLoc d))) ⊢ (bigSep Finset.univ fun c : Fin ((K (F := F)).nCore 0) => (P m).st 0 d c : sProp 𝕄) := by
  have h : iprop(obsPts d m fullShare ∗ outPts d (m (oLoc d))) ⊢ (bigSep Finset.univ fun c : Fin 2 => starts m d c : sProp 𝕄) := deal_cores m d
  exact h.trans (Entails.of_eq (bigSep_cores (F := F) (fun c => starts m d c)).symm)

omit [FloatOps F] in
/-- and brings the counts back. -/
theorem ends_elim (d : Dev nD) :
    (bigSep Finset.univ fun c : Fin ((K (F := F)).nCore 0) => (P m).dn 0 d c : sProp 𝕄) ⊢ outPts d (counts (obsOf m d)) := by
  refine (Entails.of_eq (bigSep_cores (F := F) (fun c => ends m d c))).trans ?_
  rw [out_rows]

omit [FloatOps F] in
/-- The last operation's arrays held at a valuation. -/
theorem held_last (d : Dev nD) (w : Valuation τ sig (Elt F)) :
    (held (SparseCore.T d) lastArrays w : sProp 𝕄) = iprop((oLoc d ↦{fullShare} w o') ∗ rLoc d ↦{fullShare} w r') := by
  unfold held lastArrays
  rw [SparseCore.bigSep_insert' (by decide), bigSep_singleton]

omit [FloatOps F] in
/-- The arrays after the call, as the last operation takes them. -/
theorem held_out (d : Dev nD) :
    (held (SparseCore.T d) lastArrays (wOut m d) : sProp 𝕄)
      = iprop(outPts d (counts (obsOf m d)) ∗ rLoc d ↦{fullShare} (opIn (F := F)).result (wIn m d) r') := by
  rw [held_last, out_of_ne m d (show r' ≠ o' by decide), out_o]

omit [FloatOps F] in
/-- The first reshape leaves the argument alone. -/
theorem in_a (d : Dev nD) : (opIn (F := F)).result (wIn m d) a' = m (aLoc d) :=
  (opIn (F := F)).result_of_not_mem _ (show a' ∉ ({x'} : Finset (DevRef τ sig)) by decide)

/-- What the run leaves: the argument as it was and the result. -/
abbrev FIN (d : Dev nD) : sProp 𝕄 :=
  iprop((aLoc d ↦{fullShare} m (aLoc d)) ∗ rLoc d ↦{fullShare} (resOf m d : Buf (Elt F) (rLoc d)))

/-- @main on the TensorCore: the observations laid out, the call made, the counts laid out; it ends with argument and result held. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  iapply (wp_hlo_within 𝒱 (SparseCore.T d) none Set.univ (op := opIn (F := F)) (S := arrays) opIn_bufs (V := wIn m d)) $$ [Hb Hheld]
  · isplitl [Hb] <;> iassumption
  iintro ⟨Hb, Hheld⟩
  ihave Hh := (Entails.of_eq (held_arrays d ((opIn (F := F)).result (wIn m d)))) $$ Hheld
  icases Hh with ⟨Ha, Hx, Ho, Hr⟩
  rw [wp_ret]
  imodintro
  iapply ((K (F := F)).wp_run (D (F := F)) 𝒱 (EH := EH) (P := P m) κ d 0) $$ [Hst Ha Hx Ho Hr Hb Hts]
  isplitr; · iexact Hctx
  isplitl [Hst]; · iexact Hst
  isplitl [Hx Ho]
  · iapply (starts_intro m d)
    isplitl [Hx]
    · iapply (Entails.of_eq (congrArg (fun f => (xLoc d ↦{fullShare} f : sProp 𝕄)) (in_x m d))); iexact Hx
    · iapply (Entails.of_eq (congrArg (fun f => (oLoc d ↦{fullShare} f : sProp 𝕄)) (in_o m d))); iexact Ho
  iintro ⟨Hst, Hdn⟩
  ihave Ho := (ends_elim m d) $$ Hdn
  ihave Hheld := (Entails.of_eq (held_out m d).symm) $$ [Ho Hr]
  · isplitl [Ho] <;> iassumption
  iapply (wp_hlo_within 𝒱 (SparseCore.T d) none Set.univ (op := opOut (F := F)) (S := lastArrays) opOut_bufs (V := wOut m d)) $$ [Hb Hheld]
  · isplitl [Hb] <;> iassumption
  iintro ⟨Hb, Hheld⟩
  ihave Hh := (Entails.of_eq (held_last d ((opOut (F := F)).result (wOut m d)))) $$ Hheld
  icases Hh with ⟨-, Hr⟩
  rw [in_a, end_r, wp_ret]
  imodintro
  imodintro
  isplitl [Hst]; · iexact Hst
  isplitl [Ha Hr]
  · isplitl [Ha] <;> iassumption
  isplitl [Hb] <;> iassumption

/-- What a final state holds on device `d`. -/
def fq (d : Dev nD) (s' : Phys nD τ sig (Elt F)) : Prop :=
  s'.mem.mem (aLoc d) = m (aLoc d) ∧ s'.mem.mem (rLoc d) = (resOf m d : Buf (Elt F) (rLoc d))

omit [FloatOps F] in
/-- What is held at the end says what memory holds: the argument as it was, the result the counts. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := (resOf m d : Buf (Elt F) (rLoc d)))) $$ [HSI Hr]
  · isplitl [HSI] <;> iassumption
  icases H with %h2
  ipureintro
  exact ⟨funext fun i => h1 i (Finset.mem_univ i), funext fun i => h2 i (Finset.mem_univ i)⟩

/-- What the whole run ends with. -/
def QC : PUnit × MemSt nD τ sig (Elt F) → Prop := fun r =>
  (∀ c : Dev nD, r.2.mem (aLoc c) = m (aLoc c) ∧ r.2.mem (rLoc c) = (resOf m c : Buf (Elt F) (rLoc c))) ∧ r.2.sem = fun _ => 0

/-- Every run of the program from a memory whose argument's words are below 8 ends, the argument as it was, the result
    the counts, the semaphores at zero. -/
theorem run_main [∀ e, Nonempty (Elt F e)] (hX : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hX)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Hist
end
-- ==== Proof.Range.lean ====
/- What the precondition says: every word of the observations is a digit below eight. -/
module

public import proofs.«01_k».proof.Proof.Task
public import proofs.«01_k».proof.Proof.Gen.Pre_in_range
public import Idealize.ShloMosaic.Lib.ReduceAll

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

/-- The and of two truth values' bits is the bit of their conjunction. -/
theorem andi_bits (p q : Bool) : IntOp.andi (BitVec.ofBool p) (BitVec.ofBool q) = BitVec.ofBool (p && q) := by
  cases p <;> cases q <;> decide

/-- The bit of a truth value is one when the value is true. -/
theorem bit_eq_one (p : Bool) : (BitVec.ofBool p = 1#1) ↔ p = true := by cases p <;> decide

/-- Where the precondition holds, every observation is below eight. -/
theorem lt_of_pre (x : S4096x64x64x2.Idx → BitVec 32) (h : Cert.Pre_in_range.fn (F := F) x = fun _ => 1#1)
    (i : S4096x64x64x2.Idx) : (x i).toNat < 8 := by
  have e := congrFun h (fun a => a.elim0)
  dsimp only [Cert.Pre_in_range.fn] at e
  haveI : Subsingleton Cert.Pre_in_range.S_.Idx := ⟨fun a b => funext fun k => k.elim0⟩
  have e := Host.reduce_andi_all _ _ _ _ _ e i
  simp only [andi, cmpi, broadcastInDim, constantI] at e
  simp only [IntOp.cmpi, andi_bits, bit_eq_one, Bool.and_eq_true, BitVec.sle_eq_decide, BitVec.slt_eq_decide,
    decide_eq_true_eq, BitVec.toInt_eq_toNat_cond, BitVec.toNat_ofNat, Nat.reducePow, Nat.reduceMod] at e
  have := (x i).isLt
  omega

omit [FloatOps F] in
/-- Digits below eight in the array are digits below eight in every row. -/
theorem digits_of_lt (x : S4096x64x64x2.Idx → BitVec 32) (h : ∀ i, (x i).toNat < 8) (n : ℕ) :
    Digits (rowN (shapeCast S4096x8192 x shapeCasts_S4096x64x64x2_S4096x8192) n) := by
  intro t
  unfold rowN
  split
  · exact h _
  · decide

/-- The precondition gives what the tiles' proofs ask for. -/
theorem preOK (m : (ℓ : Loc nD τ sig) → Buf (Elt F) ℓ)
    (h : ∀ d, Cert.Pre_in_range.fn (F := F) (m (aLoc d)) = fun _ => 1#1) : PreOK m :=
  fun d => digits_of_lt _ (lt_of_pre (F := F) _ (h d))

end Cert.Proof.Hist
end
-- ==== Proof.RefValue.lean ====
/- The reference's value: at batch `b` and id `v`, the number of the observations of batch `b` whose id is `v`; and that
   this is what the kernel's result holds there. -/
module

public import proofs.«01_k».proof.Proof.Launch
public import proofs.«01_k».proof.Proof.Range
public import proofs.«01_k».proof.Proof.Gen.ReferenceIdeal.Run
public import Idealize.ShloMosaic.PureOps.Reduce

@[expose] public section

set_option maxRecDepth 16384

noncomputable section

namespace Cert.Proof.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type}

local notation "𝕄" => MT nD τ sig (HIx 1) (Elt F) ℕ UU ℕ

variable [FloatOps F]

open Idealize.ShloMosaic.ValueIdx (ix3 ix4)

/-- The observations laid out as one row of words for each batch. -/
def flat (x : S4096x64x64x2.Idx → BitVec 32) : S4096x8192.Idx → BitVec 32 :=
  shapeCast S4096x8192 x shapeCasts_S4096x64x64x2_S4096x8192

/-- The array of counts: at `(b, v)`, how many ids of batch `b` are `v`. -/
def want (x : S4096x64x64x2.Idx → BitVec 32) : S4096x128.Idx → BitVec 32 :=
  fun j => cnt (rowN (flat x) (j 0).val) (j 1).val

omit [FloatOps F] in
/-- The kernel's result is the array of counts. -/
theorem resOf_eq (m : (ℓ : Loc nD τ sig) → Buf (Elt F) ℓ) (d : Dev nD) :
    resOf m d = want (m (aLoc d) : S4096x64x64x2.Idx → BitVec 32) := by
  funext j
  have h0 : (j 0).val < 4096 := (j 0).isLt
  have h1 : (j 1).val < 128 := (j 1).isLt
  have e : Shape.reshapeEquiv shapeCasts_S32x16384_S4096x128 j
      = (ix2 ⟨(j 0).val / 128, by omega⟩ ⟨(j 0).val % 128 * 128 + (j 1).val, by omega⟩ : S32x16384.Idx) := by
    refine Shape.reshapeEquiv_eq_of_rowMajor _ ?_
    rw [Shape.rowMajor_val_two, Shape.rowMajor_val_two]
    show (j 0).val / 128 * 16384 + ((j 0).val % 128 * 128 + (j 1).val) = (j 0).val * 128 + (j 1).val
    omega
  show counts (obsOf m d) (Shape.reshapeEquiv shapeCasts_S32x16384_S4096x128 j) = _
  rw [e]
  show cnt (rowN (flat (m (aLoc d))) (128 * ((j 0).val / 128) + ((j 0).val % 128 * 128 + (j 1).val) / 128))
    (((j 0).val % 128 * 128 + (j 1).val) % 128) = cnt (rowN (flat (m (aLoc d))) (j 0).val) (j 1).val
  rw [show 128 * ((j 0).val / 128) + ((j 0).val % 128 * 128 + (j 1).val) / 128 = (j 0).val by omega,
    show ((j 0).val % 128 * 128 + (j 1).val) % 128 = (j 1).val by omega]

/-- A word of a batch's row, in the array: word `2 t + e` is digit `e` of the observation at `(t / 64, t % 64)`. -/
theorem rowN_flat (x : S4096x64x64x2.Idx → BitVec 32) (b : Fin 4096) (t : Fin 4096) (e : Fin 2) :
    rowN (flat x) b.val (2 * t.val + e.val)
      = x (ix4 b ⟨t.val / 64, by omega⟩ ⟨t.val % 64, by omega⟩ e : S4096x64x64x2.Idx) := by
  unfold rowN
  rw [dif_pos ⟨b.isLt, by omega⟩]
  refine congrArg x (Shape.reshapeEquiv_eq_of_rowMajor _ ?_)
  rw [Shape.rowMajor_val_two, Shape.rowMajor_val_four]
  show ((b.val * 64 + t.val / 64) * 64 + t.val % 64) * 2 + e.val = b.val * 8192 + (2 * t.val + e.val)
  omega

/-- The reference's digits: the slice of digit `e`, its last axis dropped. -/
theorem digit_at (x : S4096x64x64x2.Idx → BitVec 32) (e : Fin 2) (off : Fin 4 → ℕ)
    (hoff : off = ![0, 0, 0, e.val]) (hs : S4096x64x64x2.Slices off Cert.ReferenceIdeal.S4096x64x64x1)
    (b : Fin 4096) (p q : Fin 64) :
    shapeCast Cert.ReferenceIdeal.S4096x64x64 (extractStridedSlice Cert.ReferenceIdeal.S4096x64x64x1 off x hs)
        Cert.ReferenceIdeal.Gen.shapeCasts_S4096x64x64x1_S4096x64x64 (ix3 b p q)
      = x (ix4 b p q e : S4096x64x64x2.Idx) := by
  subst hoff
  have h : Shape.reshapeEquiv Cert.ReferenceIdeal.Gen.shapeCasts_S4096x64x64x1_S4096x64x64 (ix3 b p q)
      = (ix4 b p q 0 : Cert.ReferenceIdeal.S4096x64x64x1.Idx) := by
    refine Shape.reshapeEquiv_eq_of_rowMajor _ ?_
    rw [Shape.rowMajor_val_three, Shape.rowMajor_val_four]
    show ((b.val * 64 + p.val) * 64 + q.val) * 1 + 0 = (b.val * 64 + p.val) * 64 + q.val
    omega
  show extractStridedSlice Cert.ReferenceIdeal.S4096x64x64x1 _ x hs (Shape.reshapeEquiv _ _) = _
  rw [h]
  refine congrArg x (funext fun a => Fin.ext ?_)
  match a with
  | ⟨0, _⟩ => exact Nat.zero_add _
  | ⟨1, _⟩ => exact Nat.zero_add _
  | ⟨2, _⟩ => exact Nat.zero_add _
  | ⟨3, _⟩ => exact Nat.add_zero _

/-- The reference's ids, one row for each batch. -/
def refIds (x : S4096x64x64x2.Idx → BitVec 32) : Cert.ReferenceIdeal.S4096x4096.Idx → BitVec 32 :=
  shapeCast _ (addi (muli
    (shapeCast _ (extractStridedSlice Cert.ReferenceIdeal.S4096x64x64x1 ![0, 0, 0, 0] x
      Cert.ReferenceIdeal.Gen.slices_S4096x64x64x2_S4096x64x64x1_0_0_0_0)
      Cert.ReferenceIdeal.Gen.shapeCasts_S4096x64x64x1_S4096x64x64)
    (broadcastInDim Cert.ReferenceIdeal.S4096x64x64 ![] Cert.ReferenceIdeal.Gen.bcast_S_S4096x64x64
      (constantI Cert.ReferenceIdeal.S_ 32 8#32)))
    (shapeCast _ (extractStridedSlice Cert.ReferenceIdeal.S4096x64x64x1 ![0, 0, 0, 1] x
      Cert.ReferenceIdeal.Gen.slices_S4096x64x64x2_S4096x64x64x1_0_0_0_1)
      Cert.ReferenceIdeal.Gen.shapeCasts_S4096x64x64x1_S4096x64x64))
    Cert.ReferenceIdeal.Gen.shapeCasts_S4096x64x64_S4096x4096

/-- The reference's id of observation `t` of batch `b` is the row's, the digits being below eight. -/
theorem refIds_at (x : S4096x64x64x2.Idx → BitVec 32) (hx : ∀ i, (x i).toNat < 8) (b t : Fin 4096) :
    (refIds x (ix2 b t)).toNat = idn (rowN (flat x) b.val) t.val := by
  have h : Shape.reshapeEquiv Cert.ReferenceIdeal.Gen.shapeCasts_S4096x64x64_S4096x4096 (ix2 b t)
      = (ix3 b ⟨t.val / 64, by omega⟩ ⟨t.val % 64, by omega⟩ : Cert.ReferenceIdeal.S4096x64x64.Idx) := by
    refine Shape.reshapeEquiv_eq_of_rowMajor _ ?_
    rw [Shape.rowMajor_val_two, Shape.rowMajor_val_three]
    show (b.val * 64 + t.val / 64) * 64 + t.val % 64 = b.val * 4096 + t.val
    omega
  have e0 := rowN_flat x b t 0
  have e1 := rowN_flat x b t 1
  have l0 := hx (ix4 b ⟨t.val / 64, by omega⟩ ⟨t.val % 64, by omega⟩ 0 : S4096x64x64x2.Idx)
  have l1 := hx (ix4 b ⟨t.val / 64, by omega⟩ ⟨t.val % 64, by omega⟩ 1 : S4096x64x64x2.Idx)
  unfold idn
  rw [show (2 * t.val : ℕ) = 2 * t.val + (0 : Fin 2).val from rfl, e0]
  rw [show (2 * t.val + (0 : Fin 2).val + 1 : ℕ) = 2 * t.val + (1 : Fin 2).val from rfl, e1]
  unfold refIds
  rw [show ∀ (f : Cert.ReferenceIdeal.S4096x64x64.Idx → BitVec 32) h', shapeCast Cert.ReferenceIdeal.S4096x4096 f h' (ix2 b t)
    = f (Shape.reshapeEquiv h' (ix2 b t)) from fun _ _ => rfl, h]
  show (_ * 8#32 + _ : BitVec 32).toNat = _
  rw [digit_at x 0 ![0, 0, 0, 0] rfl _ b _ _, digit_at x 1 ![0, 0, 0, 1] rfl _ b _ _, BitVec.toNat_add, BitVec.toNat_mul]
  show (_ * 8 % 2 ^ 32 + _) % 2 ^ 32 = _
  omega

/-- The reference's result. -/
def refOut (x : S4096x64x64x2.Idx → BitVec 32) : S4096x128.Idx → BitVec 32 :=
  Host.reduce IntOp.addi (extui 32 (cmpi .eq
    (broadcastInDim Cert.ReferenceIdeal.S4096x4096x128 ![0, 1, 2] Cert.ReferenceIdeal.Gen.bcast_S4096x4096x1_S4096x4096x128_0_1_2
      (broadcastInDim Cert.ReferenceIdeal.S4096x4096x1 ![0, 1] Cert.ReferenceIdeal.Gen.bcast_S4096x4096_S4096x4096x1_0_1 (refIds x)))
    (broadcastInDim Cert.ReferenceIdeal.S4096x4096x128 ![0, 1, 2] Cert.ReferenceIdeal.Gen.bcast_S1x1x128_S4096x4096x128_0_1_2
      (iotaInDim Cert.ReferenceIdeal.S1x1x128 32 2))) Cert.ReferenceIdeal.Gen.natLt_1_32)
    (constantI Cert.ReferenceIdeal.S_ 32 0#32) Cert.ReferenceIdeal.Gen.reducesTo_S4096x4096x128_S4096x128_d1
    Cert.ReferenceIdeal.Gen.h_S_

/-- A fold of additions from zero is a sum. -/
theorem fold_addi_eq_sum {ι : Type} (f : ι → BitVec 32) (s : Finset ι) : s.fold IntOp.addi 0#32 f = ∑ k ∈ s, f k := by
  classical
  induction s using Finset.induction_on with
  | empty => rfl
  | insert a s ha ih => rw [Finset.fold_insert ha, ih, Finset.sum_insert ha]; rfl

/-- The bit of an equality of words below `2 ^ 32`, widened, is one where the numbers agree and zero elsewhere. -/
theorem eq_bit (w : BitVec 32) (n v : ℕ) (hw : w.toNat = n) (hv : v < 2 ^ 32) :
    (IntOp.cmpi .eq w (BitVec.ofNat 32 v)).setWidth 32 = if n = v then 1 else 0 := by
  have h : (w == BitVec.ofNat 32 v) = decide (n = v) := by
    rw [Bool.eq_iff_iff, beq_iff_eq, decide_eq_true_iff, ← BitVec.toNat_inj, hw, BitVec.toNat_ofNat, Nat.mod_eq_of_lt hv]
  show (BitVec.ofBool (w == BitVec.ofNat 32 v)).setWidth 32 = _
  rw [h]
  by_cases e : n = v
  · rw [if_pos e, decide_eq_true e]; rfl
  · rw [if_neg e, decide_eq_false e]; rfl

/-- The reference's result is the array of counts, the digits being below eight. -/
theorem refOut_eq (x : S4096x64x64x2.Idx → BitVec 32) (hx : ∀ i, (x i).toNat < 8) : refOut x = want x := by
  funext j
  have h0 : (j 0).val < 4096 := (j 0).isLt
  have h1 : (j 1).val < 128 := (j 1).isLt
  have hr : Cert.ReferenceIdeal.S4096x4096x128.Reduces [1] S4096x128 := by decide
  unfold refOut
  rw [Host.reduce_eq_fold_single IntOp.addi _ _ _ hr]
  refine (fold_addi_eq_sum _ _).trans ?_
  unfold want cnt
  refine Eq.trans ?_ (Fin.sum_univ_eq_sum_range (fun t => if idn (rowN (flat x) (j 0).val) t = (j 1).val then (1 : BitVec 32) else 0) 4096)
  refine Finset.sum_congr rfl fun (t : Fin 4096) _ => ?_
  exact eq_bit (refIds x (ix2 ⟨(j 0).val, h0⟩ t)) _ _ (refIds_at x hx ⟨(j 0).val, h0⟩ t) (lt_trans h1 (by decide))

end Cert.Proof.Hist
end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Launch
public import proofs.«01_k».proof.Proof.Range
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame, as printed: it runs, leaves its argument and ends with every counter at zero. -/
theorem frame_kernel : Cert.quiescent_Kernel := fun m g h =>
  (θ_run (Cert.KernelIdeal.defs (F := Bits)) _ _).mono (fun _ hr => ⟨fun c => (hr.1 c).1, hr.2⟩)
    (Hist.run_main (F := Bits) m g (Hist.preOK m h))

/-- The idealized kernel's frame. -/
theorem frame_kernel_ideal : Cert.quiescent_KernelIdeal := fun m g h =>
  (θ_run (Cert.KernelIdeal.defs (F := Ideal)) _ _).mono (fun _ hr => ⟨fun c => (hr.1 c).1, hr.2⟩)
    (Hist.run_main (F := Ideal) m g (Hist.preOK m h))

/-- The reference's frame: it declares no semaphore. -/
theorem frame_reference : Cert.quiescent_ReferenceIdeal := fun m g _ =>
  (θ_run (Cert.ReferenceIdeal.defs (F := Ideal)) _ _).mono
    (fun r hr => ⟨fun c => (hr c).2, sem_eq_zero_of_no_sems (by decide) r.2⟩)
    (Cert.ReferenceIdeal.Value.run (F := Ideal) m g)

/-- The reference's frame under the precondition, which it does not need. -/
theorem frame_reference_in_range : Cert.quiescent_ReferenceIdeal_pre_in_range := fun m g _ =>
  frame_reference m g trivial

/-- The kernel's result is the reference's: both are the array of counts. -/
theorem result_eq : Cert.algebraic_KernelIdeal_ReferenceIdeal := fun m g m' g' h hm =>
  ⟨fun c => Hist.resOf m c,
    (θ_run (Cert.KernelIdeal.defs (F := Ideal)) _ _).mono (fun _ hr c => ⟨(hr.1 c).2, (hr.1 c).1⟩)
      (Hist.run_main (F := Ideal) m g (Hist.preOK m h)),
    (θ_run (Cert.ReferenceIdeal.defs (F := Ideal)) _ _).mono
      (fun _ hr c => ⟨(hr c).1.trans ((congrArg Hist.refOut (hm c)).trans
          ((Hist.refOut_eq _ (Hist.lt_of_pre (F := Ideal) _ (h c))).trans (Hist.resOf_eq m c).symm)), (hr c).2⟩)
      (Cert.ReferenceIdeal.Value.run (F := Ideal) m' g')⟩

/-- Everything the certificate claims. -/
theorem claim : Cert.Claim := ⟨Cert.Kernel.Gen.facts, Cert.KernelIdeal.Gen.facts, Cert.ReferenceIdeal.Gen.facts, Cert.Pre_in_range.Gen.facts,
  frame_kernel, frame_kernel_ideal, frame_reference, frame_reference_in_range, trivial, result_eq⟩

end Cert.Proof

end
